-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_and_finite [hPre_fresh_and_finite : Cert.Pre_fresh_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_fresh_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_fresh_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_and_finite [hPre_fresh_and_finite : Cert.Pre_fresh_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_fresh_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_fresh_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fresh_and_finite [hKernelIdeal : Cert.KernelIdeal.Facts] [hPre_fresh_and_finite : Cert.Pre_fresh_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fresh_and_finite [hReferenceIdeal : Cert.ReferenceIdeal.Facts] [hPre_fresh_and_finite : Cert.Pre_fresh_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fresh_and_finite [hKernelIdeal : Cert.KernelIdeal.Facts] [hReferenceIdeal : Cert.ReferenceIdeal.Facts] [hPre_fresh_and_finite : Cert.Pre_fresh_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fresh_and_finite : Cert.Pre_fresh_and_finite.Facts),
    quiescent_Kernel (hKernel := hKernel)
    ∧ quiescent_KernelIdeal (hKernelIdeal := hKernelIdeal)
    ∧ quiescent_KernelIdeal_pre_fresh_and_finite (hKernelIdeal := hKernelIdeal) (hPre_fresh_and_finite := hPre_fresh_and_finite)
    ∧ quiescent_ReferenceIdeal (hReferenceIdeal := hReferenceIdeal)
    ∧ quiescent_ReferenceIdeal_pre_fresh_and_finite (hReferenceIdeal := hReferenceIdeal) (hPre_fresh_and_finite := hPre_fresh_and_finite)
    ∧ preserves_Kernel_KernelIdeal
    ∧ algebraic_KernelIdeal_ReferenceIdeal_pre_fresh_and_finite (hKernelIdeal := hKernelIdeal) (hReferenceIdeal := hReferenceIdeal) (hPre_fresh_and_finite := hPre_fresh_and_finite)
-- ==== Pre_fresh_and_finite.lean ====
abbrev S4x2048x256 : Shape := ⟨3, ![4, 2048, 256]⟩
abbrev S4x256x256 : Shape := ⟨3, ![4, 256, 256]⟩
abbrev S256 : Shape := ⟨1, ![256]⟩
abbrev S_ : Shape := ⟨0, ![]⟩

class Facts : Prop where
  bcast_S_S4x2048x256 : S_.BroadcastsInDim S4x2048x256 (![] : Fin 0 → Fin S4x2048x256.rank)
  bcast_S_S4x256x256 : S_.BroadcastsInDim S4x256x256 (![] : Fin 0 → Fin S4x256x256.rank)

variable [Facts]

def fn {F : FTy → Type} [FloatOps F] (main_arg0 : FVec F S4x2048x256 .f32) (main_arg1 : FVec F S4x2048x256 .f32) (main_arg2 : FVec F S4x256x256 .f32) (main_arg3 : FVec F S256 .f32) (main_arg4 : FVec F S256 .f32) : IVec S4x2048x256 1 × IVec S4x2048x256 1 × IVec S4x256x256 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_v3 : FVec F S4x2048x256 .f32 := Host.absf main_arg1
  let main_cst_0 : FVec F S_ .f32 := constant S_ .f32 0x7F800000#32
  let main_v4 : FVec F S4x2048x256 .f32 := broadcastInDim S4x2048x256 ![] bcast_S_S4x2048x256 main_cst_0
  let main_v5 : IVec S4x2048x256 1 := cmpf .olt main_v3 main_v4
  let main_cst_1 : FVec F S_ .f32 := constant S_ .f32 0x00000000#32
  let main_v6 : FVec F S4x256x256 .f32 := broadcastInDim S4x256x256 ![] bcast_S_S4x256x256 main_cst_1
  let main_v7 : IVec S4x256x256 1 := cmpf .oeq main_arg2 main_v6
  (main_v2, main_v5, main_v7)
-- ==== Kernel.lean ====
abbrev S4x2048x256 : Shape := ⟨3, ![4, 2048, 256]⟩
abbrev S4x256x256 : Shape := ⟨3, ![4, 256, 256]⟩
abbrev S256 : Shape := ⟨1, ![256]⟩
abbrev S1x256 : Shape := ⟨2, ![1, 256]⟩
abbrev S1x512x256 : Shape := ⟨3, ![1, 512, 256]⟩
abbrev S1x2048x256 : Shape := ⟨3, ![1, 2048, 256]⟩
abbrev S1x256x256 : Shape := ⟨3, ![1, 256, 256]⟩
abbrev S2048x768 : Shape := ⟨2, ![2048, 768]⟩
abbrev S6144x256 : Shape := ⟨2, ![6144, 256]⟩
abbrev S1x1 : Shape := ⟨2, ![1, 1]⟩
abbrev S2048x256 : Shape := ⟨2, ![2048, 256]⟩
abbrev S512x256 : Shape := ⟨2, ![512, 256]⟩
abbrev S1536x256 : Shape := ⟨2, ![1536, 256]⟩
abbrev S512x768 : Shape := ⟨2, ![512, 768]⟩
abbrev S1024x768 : Shape := ⟨2, ![1024, 768]⟩
abbrev S512x512 : Shape := ⟨2, ![512, 512]⟩
abbrev S512x1 : Shape := ⟨2, ![512, 1]⟩
abbrev S1024x512 : Shape := ⟨2, ![1024, 512]⟩
abbrev S512x1536 : Shape := ⟨2, ![512, 1536]⟩
abbrev S512x1024 : Shape := ⟨2, ![512, 1024]⟩
abbrev S1024x1 : Shape := ⟨2, ![1024, 1]⟩
abbrev S1x512x1 : Shape := ⟨3, ![1, 512, 1]⟩
abbrev S1 : Shape := ⟨1, ![1]⟩
abbrev S1x1x1 : Shape := ⟨3, ![1, 1, 1]⟩
abbrev S256x256 : Shape := ⟨2, ![256, 256]⟩

abbrev nBuf : Space → Nat
  | .hbm => 9
  | .vmem => 12
  | .smem => 1
  | _ => 0

abbrev bufTy : (tb : Table) → Fin (tcTables nBuf tb) → BufTy
  | .hbm, ⟨0, _⟩ => ⟨S4x2048x256, .f32⟩
  | .hbm, ⟨1, _⟩ => ⟨S4x2048x256, .f32⟩
  | .hbm, ⟨2, _⟩ => ⟨S4x256x256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S4x2048x256, .f32⟩
  | .hbm, ⟨8, _⟩ => ⟨S4x256x256, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256, .f32⟩
  | .local _ .vmem, ⟨5, _⟩ => ⟨S1x256, .f32⟩
  | .local _ .vmem, ⟨6, _⟩ => ⟨S1x512x256, .f32⟩
  | .local _ .vmem, ⟨7, _⟩ => ⟨S1x512x256, .f32⟩
  | .local _ .vmem, ⟨8, _⟩ => ⟨S1x256x256, .f32⟩
  | .local _ .vmem, ⟨9, _⟩ => ⟨S1x256x256, .f32⟩
  | .local _ .vmem, ⟨10, _⟩ => ⟨S2048x768, .bf16⟩
  | .local _ .vmem, ⟨11, _⟩ => ⟨S6144x256, .bf16⟩
  | .local _ .smem, ⟨0, _⟩ => ⟨S1x1, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_3 : Index := 0#32
  ![v11.toNat, 0]
def k0_off2 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v13 : Index := Scalar.indexCast v10
  let c256 : Index := 256#32
  ![v13.toNat, 256]
@[reducible] def k0_t1_loop (i : grid0.Coords) : Scf.Loop 32 :=
  let c0_i32_6 : BitVec 32 := 0#32
  let arg1 : BitVec 32 := BitVec.ofNat 32 (i 1).val
  let v23 : BitVec 32 := Scalar.subi arg1 c0_i32_6
  let c1_i32 : BitVec 32 := 1#32
  let v25 : BitVec 32 := Scalar.divsi v23 c1_i32
  let v26 : BitVec 32 := Scalar.muli v25 c1_i32
  let v27 : BitVec 32 := Scalar.addi c0_i32_6 v26
  let c1_i32_7 : BitVec 32 := 1#32
  ⟨c0_i32_6, v27, c1_i32_7⟩
def k0_mult2 (i : grid0.Coords) (k0_t1 : Fin (k0_t1_loop i).trips) : BitVec 32 :=
  let c0_i32_6 : BitVec 32 := 0#32
  let c1_i32_7 : BitVec 32 := 1#32
  let arg11 : BitVec 32 := Scf.iv c0_i32_6 c1_i32_7 k0_t1
  let c512_i32_42 : BitVec 32 := 512#32
  let v109 : BitVec 32 := Scalar.muli arg11 c512_i32_42
  v109
def k0_off3 (i : grid0.Coords) (k0_t1 : Fin (k0_t1_loop i).trips) : Fin 2 → Nat :=
  let c0_i32_6 : BitVec 32 := 0#32
  let c1_i32_7 : BitVec 32 := 1#32
  let arg11 : BitVec 32 := Scf.iv c0_i32_6 c1_i32_7 k0_t1
  let c512_i32_42 : BitVec 32 := 512#32
  let v109 : BitVec 32 := Scalar.muli arg11 c512_i32_42
  let v110 : BitVec 32 := v109
  let v111 : Index := Scalar.indexCast v110
  let c0_43 : Index := 0#32
  ![v111.toNat, 0]
def k0_off4 (i : grid0.Coords) (k0_t1 : Fin (k0_t1_loop i).trips) : Fin 2 → Nat :=
  let c3_i32_47 : BitVec 32 := 3#32
  let c0_i32_6 : BitVec 32 := 0#32
  let c1_i32_7 : BitVec 32 := 1#32
  let arg11 : BitVec 32 := Scf.iv c0_i32_6 c1_i32_7 k0_t1
  let c512_i32_42 : BitVec 32 := 512#32
  let v109 : BitVec 32 := Scalar.muli arg11 c512_i32_42
  let v110 : BitVec 32 := v109
  let v127 : BitVec 32 := Scalar.muli c3_i32_47 v110
  let v128 : Index := Scalar.indexCast v127
  let c0_48 : Index := 0#32
  ![v128.toNat, 0]
@[reducible] def k0_t2_loop (i : grid0.Coords) : Scf.Loop 32 :=
  let c0_i32_6 : BitVec 32 := 0#32
  let arg1 : BitVec 32 := BitVec.ofNat 32 (i 1).val
  let v23 : BitVec 32 := Scalar.subi arg1 c0_i32_6
  let c1_i32 : BitVec 32 := 1#32
  let v25 : BitVec 32 := Scalar.divsi v23 c1_i32
  let v26 : BitVec 32 := Scalar.muli v25 c1_i32
  let v27 : BitVec 32 := Scalar.addi c0_i32_6 v26
  let v24 : BitVec 32 := Scalar.addi c0_i32_6 v23
  let c1_i32_8 : BitVec 32 := 1#32
  ⟨v27, v24, c1_i32_8⟩
def k0_mult3 (i : grid0.Coords) (k0_t2 : Fin (k0_t2_loop i).trips) : BitVec 32 :=
  let c0_i32_6 : BitVec 32 := 0#32
  let arg1 : BitVec 32 := BitVec.ofNat 32 (i 1).val
  let v23 : BitVec 32 := Scalar.subi arg1 c0_i32_6
  let c1_i32 : BitVec 32 := 1#32
  let v25 : BitVec 32 := Scalar.divsi v23 c1_i32
  let v26 : BitVec 32 := Scalar.muli v25 c1_i32
  let v27 : BitVec 32 := Scalar.addi c0_i32_6 v26
  let c1_i32_8 : BitVec 32 := 1#32
  let arg11 : BitVec 32 := Scf.iv v27 c1_i32_8 k0_t2
  let c512_i32_42 : BitVec 32 := 512#32
  let v109 : BitVec 32 := Scalar.muli arg11 c512_i32_42
  v109
def k0_off5 (i : grid0.Coords) (k0_t2 : Fin (k0_t2_loop i).trips) : Fin 2 → Nat :=
  let c0_i32_6 : BitVec 32 := 0#32
  let arg1 : BitVec 32 := BitVec.ofNat 32 (i 1).val
  let v23 : BitVec 32 := Scalar.subi arg1 c0_i32_6
  let c1_i32 : BitVec 32 := 1#32
  let v25 : BitVec 32 := Scalar.divsi v23 c1_i32
  let v26 : BitVec 32 := Scalar.muli v25 c1_i32
  let v27 : BitVec 32 := Scalar.addi c0_i32_6 v26
  let c1_i32_8 : BitVec 32 := 1#32
  let arg11 : BitVec 32 := Scf.iv v27 c1_i32_8 k0_t2
  let c512_i32_42 : BitVec 32 := 512#32
  let v109 : BitVec 32 := Scalar.muli arg11 c512_i32_42
  let v110 : BitVec 32 := v109
  let v111 : Index := Scalar.indexCast v110
  let c0_43 : Index := 0#32
  ![v111.toNat, 0]
def k0_off6 (i : grid0.Coords) (k0_t2 : Fin (k0_t2_loop i).trips) : Fin 2 → Nat :=
  let c3_i32_47 : BitVec 32 := 3#32
  let c0_i32_6 : BitVec 32 := 0#32
  let arg1 : BitVec 32 := BitVec.ofNat 32 (i 1).val
  let v23 : BitVec 32 := Scalar.subi arg1 c0_i32_6
  let c1_i32 : BitVec 32 := 1#32
  let v25 : BitVec 32 := Scalar.divsi v23 c1_i32
  let v26 : BitVec 32 := Scalar.muli v25 c1_i32
  let v27 : BitVec 32 := Scalar.addi c0_i32_6 v26
  let c1_i32_8 : BitVec 32 := 1#32
  let arg11 : BitVec 32 := Scf.iv v27 c1_i32_8 k0_t2
  let c512_i32_42 : BitVec 32 := 512#32
  let v109 : BitVec 32 := Scalar.muli arg11 c512_i32_42
  let v110 : BitVec 32 := v109
  let v127 : BitVec 32 := Scalar.muli c3_i32_47 v110
  let v128 : Index := Scalar.indexCast v127
  let c0_48 : Index := 0#32
  ![v128.toNat, 0]
def k0_off7 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v30 : Index := Scalar.indexCast v10
  let c0_9 : Index := 0#32
  ![v30.toNat, 0]
def k0_off8 (i : grid0.Coords) : Fin 2 → Nat :=
  let c3_i32 : BitVec 32 := 3#32
  let arg1 : BitVec 32 := BitVec.ofNat 32 (i 1).val
  let c512_i32 : BitVec 32 := 512#32
  let v9 : BitVec 32 := Scalar.muli arg1 c512_i32
  let v10 : BitVec 32 := v9
  let v55 : BitVec 32 := Scalar.muli c3_i32 v10
  let v56 : Index := Scalar.indexCast v55
  let c0_16 : Index := 0#32
  ![v56.toNat, 0]
def k0_cond2 (i : grid0.Coords) : BitVec 1 :=
  let arg1 : BitVec 32 := BitVec.ofNat 32 (i 1).val
  let c0_i32_38 : BitVec 32 := 0#32
  let v103 : BitVec 1 := Scalar.cmpi .eq arg1 c0_i32_38
  let v104 : BitVec 32 := Scalar.extui v103
  let c0_i32_39 : BitVec 32 := 0#32
  let v105 : BitVec 1 := Scalar.cmpi .ne v104 c0_i32_39
  v105

def k0_cond3 (i : grid0.Coords) : BitVec 1 :=
  let arg1 : BitVec 32 := BitVec.ofNat 32 (i 1).val
  let c0_i32_40 : BitVec 32 := 0#32
  let v106 : BitVec 1 := Scalar.cmpi .sgt arg1 c0_i32_40
  let v107 : BitVec 32 := Scalar.extui v106
  let c0_i32_41 : BitVec 32 := 0#32
  let v108 : BitVec 1 := Scalar.cmpi .ne v107 c0_i32_41
  v108

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x2048x256 : Shape := ⟨3, ![4, 2048, 256]⟩
abbrev S4x256x256 : Shape := ⟨3, ![4, 256, 256]⟩
abbrev S256 : Shape := ⟨1, ![256]⟩
abbrev S2048x4x256 : Shape := ⟨3, ![2048, 4, 256]⟩
abbrev S_ : Shape := ⟨0, ![]⟩
abbrev S1x4x256 : Shape := ⟨3, ![1, 4, 256]⟩
abbrev S4x256 : Shape := ⟨2, ![4, 256]⟩
abbrev S4x256x1 : Shape := ⟨3, ![4, 256, 1]⟩
abbrev S4x1x256 : Shape := ⟨3, ![4, 1, 256]⟩
abbrev S4 : Shape := ⟨1, ![4]⟩
abbrev S4x1x1 : Shape := ⟨3, ![4, 1, 1]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x2048x256, .f32⟩
  | .hbm, ⟨2, _⟩ => ⟨S4x256x256, .f32⟩
  | .hbm, ⟨3, _⟩ => ⟨S256, .f32⟩
  | .hbm, ⟨4, _⟩ => ⟨S256, .f32⟩
  | .hbm, ⟨5, _⟩ => ⟨S2048x4x256, .f32⟩
  | .hbm, ⟨6, _⟩ => ⟨S2048x4x256, .f32⟩
  | .hbm, ⟨7, _⟩ => ⟨S_, .f32⟩
  | .hbm, ⟨8, _⟩ => ⟨S2048x4x256, .f32⟩
  | .hbm, ⟨9, _⟩ => ⟨S_, .i32⟩
  | .hbm, ⟨10, _⟩ => ⟨S2048x4x256, .f32⟩
  | .hbm, ⟨11, _⟩ => ⟨S2048x4x256, .f32⟩
  | .hbm, ⟨12, _⟩ => ⟨S256, .f32⟩
  | .hbm, ⟨13, _⟩ => ⟨S256, .f32⟩
  | .hbm, ⟨14, _⟩ => ⟨S_, .i32⟩
  | .hbm, ⟨15, _⟩ => ⟨S4x256x256, .f32⟩
  | .hbm, ⟨16, _⟩ => ⟨S2048x4x256, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x4x256, .f32⟩
  | .hbm, ⟨22, _⟩ => ⟨S4x256, .f32⟩
  | .hbm, ⟨23, _⟩ => ⟨S_, .i32⟩
  | .hbm, ⟨24, _⟩ => ⟨S_, .i32⟩
  | .hbm, ⟨25, _⟩ => ⟨S1x4x256, .f32⟩
  | .hbm, ⟨26, _⟩ => ⟨S4x256, .f32⟩
  | .hbm, ⟨27, _⟩ => ⟨S4x256x1, .f32⟩
  | .hbm, ⟨28, _⟩ => ⟨S4x1x256, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4, .f32⟩
  | .hbm, ⟨36, _⟩ => ⟨S4x1x1, .f32⟩
  | .hbm, ⟨37, _⟩ => ⟨S4x1x1, .f32⟩
  | .hbm, ⟨38, _⟩ => ⟨S_, .f32⟩
  | .hbm, ⟨39, _⟩ => ⟨S4x1x1, .f32⟩
  | .hbm, ⟨40, _⟩ => ⟨S4x1x1, .f32⟩
  | .hbm, ⟨41, _⟩ => ⟨S4x256x256, .f32⟩
  | .hbm, ⟨42, _⟩ => ⟨S4x256x256, .f32⟩
  | .hbm, ⟨43, _⟩ => ⟨S4x256, .f32⟩
  | .hbm, ⟨44, _⟩ => ⟨S1x256, .f32⟩
  | .hbm, ⟨45, _⟩ => ⟨S4x256, .f32⟩
  | .hbm, ⟨46, _⟩ => ⟨S4x256, .f32⟩
  | .hbm, ⟨47, _⟩ => ⟨S4x256, .f32⟩
  | .hbm, ⟨48, _⟩ => ⟨S1x256, .f32⟩
  | .hbm, ⟨49, _⟩ => ⟨S4x256, .f32⟩
  | .hbm, ⟨50, _⟩ => ⟨S4x256, .f32⟩
  | .hbm, ⟨51, _⟩ => ⟨S1x4x256, .f32⟩
  | .hbm, ⟨52, _⟩ => ⟨S_, .i32⟩
  | .hbm, ⟨53, _⟩ => ⟨S_, .i32⟩
  | .hbm, ⟨54, _⟩ => ⟨S2048x4x256, .f32⟩
  | .hbm, ⟨55, _⟩ => ⟨S_, .i32⟩
  | .hbm, ⟨56, _⟩ => ⟨S_, .i32⟩
  | .hbm, ⟨57, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_while0c_c_6 : Ref sig .tc := ⟨.hbm, 17, rfl⟩
abbrev main_while0c_v5 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v5 : Ref sig .tc := ⟨.hbm, 22, rfl⟩
abbrev main_while0b_call1_c : Ref sig .tc := ⟨.hbm, 23, rfl⟩
abbrev main_while0b_call1_c_0 : Ref sig .tc := ⟨.hbm, 24, rfl⟩
abbrev main_while0b_call1_v0 : Ref sig .tc := ⟨.hbm, 25, rfl⟩
abbrev main_while0b_v6 : Ref sig .tc := ⟨.hbm, 26, rfl⟩
abbrev main_while0b_v7 : Ref sig .tc := ⟨.hbm, 27, rfl⟩
abbrev main_while0b_v8 : Ref sig .tc := ⟨.hbm, 28, rfl⟩
abbrev main_while0b_v9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_cst_6 : Ref sig .tc := ⟨.hbm, 34, rfl⟩
abbrev main_while0b_v14 : Ref sig .tc := ⟨.hbm, 35, rfl⟩
abbrev main_while0b_v15 : Ref sig .tc := ⟨.hbm, 36, rfl⟩
abbrev main_while0b_v16 : Ref sig .tc := ⟨.hbm, 37, rfl⟩
abbrev main_while0b_cst_7 : Ref sig .tc := ⟨.hbm, 38, rfl⟩
abbrev main_while0b_v17 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_v21 : Ref sig .tc := ⟨.hbm, 43, rfl⟩
abbrev main_while0b_v22 : Ref sig .tc := ⟨.hbm, 44, rfl⟩
abbrev main_while0b_v23 : Ref sig .tc := ⟨.hbm, 45, rfl⟩
abbrev main_while0b_v24 : Ref sig .tc := ⟨.hbm, 46, rfl⟩
abbrev main_while0b_v25 : Ref sig .tc := ⟨.hbm, 47, rfl⟩
abbrev main_while0b_v26 : Ref sig .tc := ⟨.hbm, 48, rfl⟩
abbrev main_while0b_v27 : Ref sig .tc := ⟨.hbm, 49, rfl⟩
abbrev main_while0b_v28 : Ref sig .tc := ⟨.hbm, 50, rfl⟩
abbrev main_while0b_call2_v0 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_v29 : Ref sig .tc := ⟨.hbm, 54, rfl⟩
abbrev main_while0b_c_8 : Ref sig .tc := ⟨.hbm, 55, rfl⟩
abbrev main_while0b_v30 : Ref sig .tc := ⟨.hbm, 56, rfl⟩
abbrev main_v4 : Ref sig .tc := ⟨.hbm, 57, rfl⟩

abbrev nD : Nat := 1
abbrev τ : Topo := Topo.v7x

variable {F : FTy → Type} [FloatOps F]

abbrev main_while0_count : Scf.Loop 32 := ⟨0#32, 2048#32, 1#32⟩
-- ==== Proof.RealSum.lean ====
module

public import Idealize.ShloMosaic.PureOps.Ideal

@[expose] public section

/-!
  Sums of real numbers read among the extended reals, and sums over an axis made of equal parts.
-/

namespace Cert.QK

open Finset

/-- A finite sum of real numbers, taken among the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum over an axis of two parts of the same length is the sum of the two parts. -/
theorem sum_halves {M : Type*} [AddCommMonoid M] (n N : Nat) (h : N = n + n) (f : Fin N → M) :
    ∑ x, f x = ∑ y : Fin n, f ⟨y.val, by omega⟩ + ∑ y : Fin n, f ⟨n + y.val, by omega⟩ := by
  subst h
  rw [Fin.sum_univ_add]
  rfl

/-- A sum over an axis of three parts of the same length is the sum of the three parts. -/
theorem sum_thirds {M : Type*} [AddCommMonoid M] (n n' N : Nat) (h' : n' = n + n) (h : N = n' + n) (f : Fin N → M) :
    ∑ x, f x = ∑ y : Fin n, f ⟨y.val, by omega⟩ + ∑ y : Fin n, f ⟨n + y.val, by omega⟩
      + ∑ y : Fin n, f ⟨n' + y.val, by omega⟩ := by
  subst h' h
  rw [Fin.sum_univ_add, Fin.sum_univ_add]
  rfl

end Cert.QK
-- ==== Proof.BlockOps.lean ====
module

public import proofs.«01_k».proof.Proof.Gen.KernelIdeal.Skeleton
public import proofs.«01_k».proof.Proof.RealSum
public import Idealize.ShloMosaic.Lib.Pointwise
public import Idealize.ShloMosaic.Lib.WordCmp

@[expose] public section

/-!
  What the kernel's vector operations compute, element by element, when the blocks they read hold
  real numbers and the second and third parts of the split rows are the zero part and the number
  itself.
-/

set_option maxRecDepth 16384

noncomputable section

namespace Cert.QK

open Idealize.ShloMosaic
open Cert.KernelIdeal Cert.KernelIdeal.Gen

/-- The 768-column layout of the real rows `J`: the row, a zero row, the row again, side by side. -/
def Wide (J : Fin 512 → Fin 256 → ℝ) (v : FVec Ideal S512x768 .bf16) : Prop :=
  ∀ (j : Fin 512) (d : Fin 256), v (ix2 j ⟨d.val, by omega⟩) = ((J j d : ℝ) : EReal) ∧
    v (ix2 j ⟨256 + d.val, by omega⟩) = 0 ∧ v (ix2 j ⟨512 + d.val, by omega⟩) = ((J j d : ℝ) : EReal)

/-- The 1536-row layout of the real rows `J`: the block, a zero block, the block again, on top of each other. -/
def Tall (J : Fin 512 → Fin 256 → ℝ) (v : FVec Ideal S1536x256 .bf16) : Prop :=
  ∀ (j : Fin 512) (d : Fin 256), v (ix2 ⟨j.val, by omega⟩ d) = ((J j d : ℝ) : EReal) ∧
    v (ix2 ⟨512 + j.val, by omega⟩ d) = 0 ∧ v (ix2 ⟨1024 + j.val, by omega⟩ d) = ((J j d : ℝ) : EReal)

variable {Q K J : Fin 512 → Fin 256 → ℝ}
  {v3 : FVec Ideal S1x512x256 .f32} {v12 v14 : FVec Ideal S512x256 .bf16}
  {v112 : FVec Ideal S512x768 .bf16} {v129 : FVec Ideal S1536x256 .bf16}

/-- A column of the second third lies past the first. -/
theorem col_a (x : Fin 256) : ¬ 256 + x.val < 256 := by omega
/-- A column of the second third, counted from the end of the first, lies inside it. -/
theorem col_b (x : Fin 256) : 256 + x.val - 256 < 256 := by omega
/-- A column of the last third lies past the first. -/
theorem col_c (x : Fin 256) : ¬ 512 + x.val < 256 := by omega
/-- A column of the last third lies past the second. -/
theorem col_d (x : Fin 256) : ¬ 512 + x.val - 256 < 256 := by omega
/-- A column of the last third, counted from its start. -/
theorem col_e (x : Fin 256) : 512 + x.val - 256 - 256 = x.val := by omega
/-- A row of the second third lies past the first. -/
theorem row_a (x : Fin 512) : ¬ 512 + x.val < 512 := by omega
/-- A row of the second third, counted from the end of the first, lies inside it. -/
theorem row_b (x : Fin 512) : 512 + x.val - 512 < 512 := by omega
/-- A row of the last third lies past the first. -/
theorem row_c (x : Fin 512) : ¬ 1024 + x.val < 512 := by omega
/-- A row of the last third lies past the second. -/
theorem row_d (x : Fin 512) : ¬ 1024 + x.val - 512 < 512 := by omega
/-- A row of the last third, counted from its start. -/
theorem row_e (x : Fin 512) : 1024 + x.val - 512 - 512 = x.val := by omega

/-- The first 512 rows of the stacked product are the query rows times the key rows. -/
theorem pay17_top (h3 : ∀ l d, v3 (ix3 0 l d) = ((Q l d : ℝ) : EReal)) (hw : Wide J v112) (a : Fin 512) (b : Fin 512)
    (ha : a.val < 1024) :
    k0_pay17 (F := Ideal) v3 v12 v14 v112 (ix2 ⟨a.val, ha⟩ b) = ((∑ d, Q a d * J b d : ℝ) : EReal) := by
  pointwise [k0_pay17, k0_pay13]
  rw [sum_thirds 256 512 768 rfl rfl]
  simp only [a.isLt, Fin.is_lt, dite_true, col_a, col_b, col_c, col_d, dite_false, (hw b _).1, (hw b _).2.1, (hw b _).2.2, h3,
    mul_zero, Finset.sum_const_zero, add_zero, Fin.eta, ← EReal.coe_mul, ← EReal.coe_sub, sub_self, EReal.coe_zero, zero_mul, coe_sum]

/-- The last 512 rows of the stacked product are the block's key rows times the key rows. -/
theorem pay17_bot (h12 : ∀ l d, v12 (ix2 l d) = ((K l d : ℝ) : EReal)) (h14 : ∀ l d, v14 (ix2 l d) = 0) (hw : Wide J v112)
    (a : Fin 512) (b : Fin 512) (ha : 512 + a.val < 1024) :
    k0_pay17 (F := Ideal) v3 v12 v14 v112 (ix2 ⟨512 + a.val, ha⟩ b) = ((∑ d, K a d * J b d : ℝ) : EReal) := by
  pointwise [k0_pay17, k0_pay13]
  rw [sum_thirds 256 512 768 rfl rfl]
  simp only [Fin.is_lt, dite_true, row_a, col_a, col_b, col_c, col_d, dite_false, (hw b _).1, (hw b _).2.1, (hw b _).2.2, h12, h14,
    mul_zero, Finset.sum_const_zero, add_zero, Fin.eta, ← EReal.coe_mul, zero_mul, coe_sum, Nat.add_sub_cancel_left]

/-- The loop's second product is the first one's operation. -/
theorem pay23_eq : k0_pay23 (F := Ideal) v3 v12 v14 v112 = k0_pay17 (F := Ideal) v3 v12 v14 v112 := rfl

/-- The scores kept for the output: the running sum plus the products with the earlier keys, spread over the key rows. -/
theorem pay19_apply {f : FVec Ideal S512x256 .f32} {A : Fin 512 → Fin 256 → ℝ} (hf : ∀ l d, f (ix2 l d) = ((A l d : ℝ) : EReal))
    (h3 : ∀ l d, v3 (ix3 0 l d) = ((Q l d : ℝ) : EReal)) (hw : Wide J v112) (ht : Tall J v129) (a : Fin 512) (b : Fin 256) :
    k0_pay19 (F := Ideal) v3 v12 v14 f v112 v129 (ix2 a b)
      = ((A a b + ∑ j, (∑ d, Q a d * J j d) * J j b : ℝ) : EReal) := by
  pointwise [k0_pay19]
  rw [sum_thirds 512 1024 1536 rfl rfl, hf]
  simp only [Fin.is_lt, dite_true, row_a, row_b, row_c, row_d, dite_false, (ht _ b).1, (ht _ b).2.1, (ht _ b).2.2,
    pay17_top h3 hw, mul_zero, Finset.sum_const_zero, add_zero, Fin.eta, ← EReal.coe_mul, ← EReal.coe_sub, sub_self,
    EReal.coe_zero, zero_mul, coe_sum, Nat.add_sub_cancel_left, ← EReal.coe_add]

/-- The bits of the constant two are the real number two. -/
theorem two_word : Ideal.ofBits FTy.f32 1073741824#32 = ((2 : ℝ) : EReal) := by
  simp [Ideal.ofBits, Ideal.ieee, -EReal.coe_mul]; norm_num

/-- A choice by comparing two positions of a block is the choice by comparing their numbers. -/
theorem select_sle (x a : Fin 512) {α : Type} (u v : α) :
    Scalar.select (IntOp.cmpi .sle (BitVec.ofNat 32 x.val) (BitVec.ofNat 32 a.val)) u v = if x ≤ a then u else v := by
  rw [WordCmp.cmpi_sle_ofNat (by omega) (by omega)]
  by_cases h : x ≤ a
  · have h' : x.val ≤ a.val := h
    simp [Scalar.select, h, h']
  · have h' : ¬ x.val ≤ a.val := h
    simp [Scalar.select, h, h']

/-- A choice by a strict comparison of two positions of a block is the choice by comparing their numbers. -/
theorem select_slt (x a : Fin 512) {α : Type} (u v : α) :
    Scalar.select (IntOp.cmpi .slt (BitVec.ofNat 32 x.val) (BitVec.ofNat 32 a.val)) u v = if x < a then u else v := by
  rw [WordCmp.cmpi_slt_ofNat (by omega) (by omega)]
  by_cases h : x < a
  · have h' : x.val < a.val := h
    simp [Scalar.select, h, h']
  · have h' : ¬ x.val < a.val := h
    simp [Scalar.select, h, h']

/-- A choice by whether two positions of a block are equal is the choice by whether their numbers are. -/
theorem select_eq (x a : Fin 512) {α : Type} (u v : α) :
    Scalar.select (IntOp.cmpi .eq (BitVec.ofNat 32 x.val) (BitVec.ofNat 32 a.val)) u v = if x = a then u else v := by
  rw [WordCmp.cmpi_eq_ofNat (by omega) (by omega)]
  by_cases h : x = a
  · subst h; simp [Scalar.select]
  · have h' : ¬ x.val = a.val := fun e => h (Fin.ext e)
    simp [Scalar.select, h, h']

/-- A choice between two real numbers is the choice of the extended reals they are. -/
theorem coe_ite (c : Prop) [Decidable c] (u v : ℝ) : (if c then (u : EReal) else (v : EReal)) = ((if c then u else v : ℝ) : EReal) := by
  split <;> rfl

/-- The running count of squared products: twice the sum of the squares of the products with the earlier keys is added. -/
theorem pay18_apply {f : FVec Ideal S512x1 .f32} {B : Fin 512 → ℝ} (hf : ∀ l, f (ix2 l 0) = ((B l : ℝ) : EReal))
    (h12 : ∀ l d, v12 (ix2 l d) = ((K l d : ℝ) : EReal)) (h14 : ∀ l d, v14 (ix2 l d) = 0) (hw : Wide J v112) (a : Fin 512) :
    k0_pay18 (F := Ideal) v3 v12 v14 f v112 (ix2 a 0) = ((B a + 2 * ∑ j, (∑ d, K a d * J j d) ^ 2 : ℝ) : EReal) := by
  pointwise [k0_pay18, k0_pay14]
  rw [hf, two_word]
  simp only [pay17_bot h12 h14 hw, ← EReal.coe_mul, mul_one, coe_sum, ← EReal.coe_add, pow_two]

/-- One block's addition to the final matrix: the sum of its key rows' outer products. -/
theorem pay2_apply (h12 : ∀ l d, v12 (ix2 l d) = ((K l d : ℝ) : EReal)) (h14 : ∀ l d, v14 (ix2 l d) = 0) (ht : Tall J v129)
    (a b : Fin 256) : k0_pay2 (F := Ideal) v12 v14 v129 (ix2 a b) = ((∑ j, K j a * J j b : ℝ) : EReal) := by
  pointwise [k0_pay2]
  rw [sum_thirds 512 1024 1536 rfl rfl]
  simp only [Fin.is_lt, dite_true, row_a, row_b, row_c, row_d, dite_false, (ht _ b).1, (ht _ b).2.1, (ht _ b).2.2, h12, h14,
    mul_zero, Finset.sum_const_zero, add_zero, Fin.eta, ← EReal.coe_mul, zero_mul, coe_sum, Nat.add_sub_cancel_left]

/-- What the first point of a sequence stores as its final matrix: the sum of its key rows' outer products. -/
theorem pay3_apply (h12 : ∀ l d, v12 (ix2 l d) = ((K l d : ℝ) : EReal)) (h14 : ∀ l d, v14 (ix2 l d) = 0) (ht : Tall J v129)
    (a b : Fin 256) : k0_pay3 (F := Ideal) v12 v14 v129 (ix3 0 a b) = ((∑ j, K j a * J j b : ℝ) : EReal) := by
  pointwise [k0_pay3]
  exact pay2_apply h12 h14 ht a b

/-- What a later point stores as its final matrix: the sum of its key rows' outer products is added to what is there. -/
theorem pay4_apply {p : FVec Ideal S1x256x256 .f32} {P : Fin 256 → Fin 256 → ℝ} (hp : ∀ a b, p (ix3 0 a b) = ((P a b : ℝ) : EReal))
    (h12 : ∀ l d, v12 (ix2 l d) = ((K l d : ℝ) : EReal)) (h14 : ∀ l d, v14 (ix2 l d) = 0) (ht : Tall J v129)
    (a b : Fin 256) : k0_pay4 (F := Ideal) v12 v14 v129 p (ix3 0 a b) = ((P a b + ∑ j, K j a * J j b : ℝ) : EReal) := by
  pointwise [k0_pay4]
  rw [pay2_apply h12 h14 ht, hp, ← EReal.coe_add]

/-- A product with the block's own keys, kept only for the keys not later than the query. -/
theorem pay25_apply (h3 : ∀ l d, v3 (ix3 0 l d) = ((Q l d : ℝ) : EReal)) (hw : Wide J v112) (a b : Fin 512) :
    k0_pay25 (F := Ideal) v3 v12 v14 v112 (ix2 a b) = ((if b ≤ a then ∑ d, Q a d * J b d else 0 : ℝ) : EReal) := by
  pointwise [k0_pay25]
  rw [pay23_eq, pay17_top h3 hw, select_sle, ← EReal.coe_zero, coe_ite]

/-- The products of the block's keys with one another. -/
theorem pay24_apply (h12 : ∀ l d, v12 (ix2 l d) = ((K l d : ℝ) : EReal)) (h14 : ∀ l d, v14 (ix2 l d) = 0) (hw : Wide J v112)
    (a b : Fin 512) : k0_pay24 (F := Ideal) v3 v12 v14 v112 (ix2 a b) = ((∑ d, K a d * J b d : ℝ) : EReal) := by
  pointwise [k0_pay24]
  rw [pay23_eq, pay17_bot h12 h14 hw]

/-- The block's own scores, spread over its key rows, are added to the running sum. -/
theorem pay28_apply {f : FVec Ideal S512x256 .f32} {A : Fin 512 → Fin 256 → ℝ} (hf : ∀ l d, f (ix2 l d) = ((A l d : ℝ) : EReal))
    {g : FVec Ideal S512x512 .f32} {G : Fin 512 → Fin 512 → ℝ} (hg : ∀ l d, g (ix2 l d) = ((G l d : ℝ) : EReal))
    (ht : Tall J v129) (a : Fin 512) (b : Fin 256) :
    k0_pay28 (F := Ideal) f g v129 (ix2 a b) = ((A a b + ∑ j, G a j * J j b : ℝ) : EReal) := by
  pointwise [k0_pay28]
  rw [sum_thirds 512 1024 1536 rfl rfl, hf]
  simp only [Fin.is_lt, dite_true, row_a, row_b, row_c, row_d, dite_false, (ht _ b).1, (ht _ b).2.1, (ht _ b).2.2,
    hg, mul_zero, Finset.sum_const_zero, add_zero, Fin.eta, ← EReal.coe_mul, ← EReal.coe_sub, sub_self,
    EReal.coe_zero, zero_mul, coe_sum, Nat.add_sub_cancel_left, ← EReal.coe_add]

/-- The row and column numbers of a 512 by 512 block. -/
abbrev rowNo : IVec S512x512 32 := iota .tc S512x512 32 [0] iota_S512x512_d0_w32
/-- The column numbers of a 512 by 512 block. -/
abbrev colNo : IVec S512x512 32 := iota .tc S512x512 32 [1] iota_S512x512_d1_w32

/-- What one position adds to the squared norm: the count from earlier blocks, twice the squared products with the
    block's earlier keys, and the squared product with itself. -/
theorem pay27_apply {f : FVec Ideal S512x1 .f32} {B : Fin 512 → ℝ} (hf : ∀ l, f (ix2 l 0) = ((B l : ℝ) : EReal))
    {g : FVec Ideal S512x512 .f32} {G : Fin 512 → Fin 512 → ℝ} (hg : ∀ l d, g (ix2 l d) = ((G l d : ℝ) : EReal)) (a : Fin 512) :
    k0_pay27 (F := Ideal) rowNo colNo k0_pay14 f g k0_pay26 (ix2 a 0)
      = ((B a + ∑ j, G a j ^ 2 * (if j < a then 2 else if j = a then 1 else 0) : ℝ) : EReal) := by
  pointwise [k0_pay27, k0_pay26, k0_pay14]
  rw [hf]
  simp only [hg, select_slt, select_eq, two_word, ← EReal.coe_one, ← EReal.coe_zero, coe_ite, ← EReal.coe_mul, coe_sum,
    ← EReal.coe_add, pow_two]

/-- The squared norm at a position of the block: the additions of the positions up to it, and the carried norm. -/
theorem pay29_apply {f : FVec Ideal S512x1 .f32} {C : Fin 512 → ℝ}
    {g : FVec Ideal S512x512 .f32} {cr : EReal} {r : ℝ} (hr : cr = (r : EReal))
    (hc : ∀ a, k0_pay27 (F := Ideal) rowNo colNo k0_pay14 f g k0_pay26 (ix2 a 0) = ((C a : ℝ) : EReal)) (a : Fin 512) :
    k0_pay29 (F := Ideal) rowNo colNo k0_pay14 f g k0_pay26 cr (ix2 a 0)
      = (((∑ j, (if j ≤ a then C j else 0)) + r : ℝ) : EReal) := by
  pointwise [k0_pay29]
  simp only [hc, hr, select_sle, ← EReal.coe_sub, sub_self, ← EReal.coe_zero, coe_ite, coe_sum, ← EReal.coe_add, ite_self,
    Finset.sum_const_zero, add_zero]

/-- The norm carried to the next block: the additions of all positions of the block are added to the carried norm. -/
theorem pay30_apply {f : FVec Ideal S512x1 .f32} {C : Fin 512 → ℝ}
    {g : FVec Ideal S512x512 .f32} {cr : EReal} {r : ℝ} (hr : cr = (r : EReal))
    (hc : ∀ a, k0_pay27 (F := Ideal) rowNo colNo k0_pay14 f g k0_pay26 (ix2 a 0) = ((C a : ℝ) : EReal)) :
    k0_pay30 (F := Ideal) rowNo colNo k0_pay14 f g k0_pay26 cr = ((r + ∑ j, C j : ℝ) : EReal) := by
  pointwise [k0_pay30]
  simp only [hc, hr, Fin.sum_univ_one, coe_sum, ← EReal.coe_add]

/-- The small constant added to the norm is a positive real number. -/
theorem eps_word : ∃ e : ℝ, 0 < e ∧ Ideal.ofBits FTy.f32 869711765#32 = (e : EReal) := by
  refine ⟨_, ?_, by simp [Ideal.ofBits, Ideal.ieee, -EReal.coe_mul]; rfl⟩
  positivity

/-- The small constant added to the norm, as a real number. -/
def eps : ℝ := eps_word.choose
/-- The small constant is positive. -/
theorem eps_pos : 0 < eps := eps_word.choose_spec.1
/-- The bits of the small constant are the real number it is. -/
theorem eps_eq : Ideal.ofBits FTy.f32 869711765#32 = (eps : EReal) := eps_word.choose_spec.2

/-- One output element from the unscaled product `A`, the squared norm `f`, the gain and the scale. -/
def outv (A f : ℝ) (g s : EReal) : EReal := Ideal.tanh (g * ((A / (√f + eps) : ℝ) : EReal)) * s

/-- The square root of a real number that is not negative is the real square root. -/
theorem sqrt_coe {f : ℝ} (h : 0 ≤ f) : Ideal.sqrt (f : EReal) = ((√f : ℝ) : EReal) := if_neg (not_lt.2 h)

/-- The norm with the small constant added is positive. -/
theorem norm_pos (f : ℝ) : 0 < √f + eps := add_pos_of_nonneg_of_pos (Real.sqrt_nonneg _) eps_pos

/-- The stored output element is computed from the unscaled product, the squared norm, the gain and the scale. -/
theorem pay1_apply {v59 : FVec Ideal S512x256 .f32} {v74 : FVec Ideal S512x1 .f32} (g s : FVec Ideal S1x256 .f32) {a : Fin 512} {b : Fin 256}
    {A f : ℝ} (hA : v59 (ix2 a b) = (A : EReal)) (hf : v74 (ix2 a 0) = (f : EReal)) (h0 : 0 ≤ f) :
    k0_pay1 (F := Ideal) v59 v74 g s (ix3 0 a b) = outv A f (g (ix2 0 b)) (s (ix2 0 b)) := by
  pointwise [k0_pay1]
  rw [hA, hf, sqrt_coe h0, eps_eq, ← EReal.coe_add, Ideal.div_coe (norm_pos f).ne', one_mul, ← EReal.coe_mul, outv, mul_one_div,
    mul_comm (g _)]

end Cert.QK
-- ==== Proof.Layout.lean ====
module

public import proofs.«01_k».proof.Proof.BlockOps
public import Idealize.ShloMosaic.Lib.Pipeline.Value
public import Idealize.ShloMosaic.Lib.Pipeline.ValueKit
public import Idealize.ShloMosaic.Lib.Ring
public import Idealize.ShloMosaic.Lib.Tactic

@[expose] public section

/-!
  The two scratch arrays: what they hold after the first block of a sequence, and what a block reads out of them.
-/

set_option maxRecDepth 16384

noncomputable section

namespace Cert.QK

open Idealize.ShloMosaic
open Cert.KernelIdeal Cert.KernelIdeal.Gen

variable {kk : ℕ → Fin 256 → ℝ}

/-- The whole key array in the 768-column layout. -/
def WideAll (kk : ℕ → Fin 256 → ℝ) (C : FVec Ideal S2048x768 .bf16) : Prop :=
  ∀ (t : Fin 2048) (d : Fin 256), C (ix2 t ⟨d.val, by omega⟩) = ((kk t.val d : ℝ) : EReal) ∧
    C (ix2 t ⟨256 + d.val, by omega⟩) = 0 ∧ C (ix2 t ⟨512 + d.val, by omega⟩) = ((kk t.val d : ℝ) : EReal)

/-- The whole key array in the layout of four 1536-row blocks. -/
def TallAll (kk : ℕ → Fin 256 → ℝ) (C : FVec Ideal S6144x256 .bf16) : Prop :=
  ∀ (b : Fin 4) (j : Fin 512) (d : Fin 256), C (ix2 ⟨1536 * b.val + j.val, by omega⟩ d) = ((kk (512 * b.val + j.val) d : ℝ) : EReal) ∧
    C (ix2 ⟨1536 * b.val + (512 + j.val), by omega⟩ d) = 0 ∧
    C (ix2 ⟨1536 * b.val + (1024 + j.val), by omega⟩ d) = ((kk (512 * b.val + j.val) d : ℝ) : EReal)

/-- The first scratch array holds the keys in the 768-column layout. -/
theorem pay8_wide {x : FVec Ideal S1x2048x256 .f32} (hx : ∀ (t : Fin 2048) d, x (ix3 0 t d) = ((kk t.val d : ℝ) : EReal)) :
    WideAll kk (k0_pay8 (F := Ideal) x) := by
  intro t d
  refine ⟨?_, ?_, ?_⟩ <;> pointwise [k0_pay8, k0_pay7, k0_pay6, k0_pay5]
  · simp only [Fin.is_lt, dite_true, Fin.eta, hx]
  · simp only [Fin.is_lt, col_a, dite_false, dite_true, Nat.add_sub_cancel_left, Fin.eta, hx, ← EReal.coe_sub, sub_self, EReal.coe_zero]
  · simp only [Fin.is_lt, col_c, col_d, col_e, dite_false, dite_true, Nat.add_sub_cancel_left, Fin.eta, hx]

/-- Rows of the first scratch array read from row `512 n` on. -/
theorem ld_wide {C : FVec Ideal S2048x768 .bf16} (h : WideAll kk C) (n : ℕ) (hn : n < 4) {off : Fin 2 → ℕ} (inb)
    (h0 : off = ![512 * n, 0]) :
    Wide (fun j d => kk (512 * n + j.val) d) (View.ld (Val := Elt Ideal) (e' := .bf16) C (Rect.unit (s := S2048x768) off S512x768.size inb)) := by
  subst h0
  intro j d
  have hj := j.isLt
  have key : ∀ (e : Fin 768), View.ld (Val := Elt Ideal) (e' := .bf16) C (Rect.unit (s := S2048x768) _ S512x768.size inb) (ix2 j e)
      = C (ix2 ⟨512 * n + j.val, by omega⟩ e) := by
    intro e
    refine View.ld_unit_apply_of (Val := Elt Ideal) (e := .bf16) C _ _ inb _ _ fun a => ?_
    match a with
    | ⟨0, _⟩ => rfl
    | ⟨1, _⟩ => exact (Nat.zero_add _).symm
  rw [key, key, key]
  exact h ⟨512 * n + j.val, by omega⟩ d

/-- The first 256 columns are the keys, -/
theorem ld_key {C : FVec Ideal S2048x768 .bf16} (h : WideAll kk C) (n : ℕ) (hn : n < 4) {off : Fin 2 → ℕ} (inb)
    (h0 : off = ![512 * n, 0]) (j : Fin 512) (d : Fin 256) :
    View.ld (Val := Elt Ideal) (e' := .bf16) C (Rect.unit (s := S2048x768) off S512x256.size inb) (ix2 j d)
      = ((kk (512 * n + j.val) d : ℝ) : EReal) := by
  subst h0
  refine (View.ld_unit_apply_of (Val := Elt Ideal) (e := .bf16) C _ _ inb _ (ix2 ⟨512 * n + j.val, by omega⟩ ⟨d.val, by omega⟩) fun a => ?_).trans
    (h ⟨512 * n + j.val, by omega⟩ d).1
  match a with
  | ⟨0, _⟩ => rfl
  | ⟨1, _⟩ => exact (Nat.zero_add _).symm

/-- and the next 256 are zeros. -/
theorem ld_zero {C : FVec Ideal S2048x768 .bf16} (h : WideAll kk C) (n : ℕ) (hn : n < 4) {off : Fin 2 → ℕ} (inb)
    (h0 : off = ![512 * n, 256]) (j : Fin 512) (d : Fin 256) :
    View.ld (Val := Elt Ideal) (e' := .bf16) C (Rect.unit (s := S2048x768) off S512x256.size inb) (ix2 j d) = 0 := by
  subst h0
  refine (View.ld_unit_apply_of (Val := Elt Ideal) (e := .bf16) C _ _ inb _ (ix2 ⟨512 * n + j.val, by omega⟩ ⟨256 + d.val, by omega⟩) fun a => ?_).trans
    (h ⟨512 * n + j.val, by omega⟩ d).2.1
  match a with
  | ⟨0, _⟩ => rfl
  | ⟨1, _⟩ => rfl

/-- A block of the second scratch array. -/
theorem ld_tall {C : FVec Ideal S6144x256 .bf16} (h : TallAll kk C) (n : ℕ) (hn : n < 4) {off : Fin 2 → ℕ} (inb)
    (h0 : off = ![1536 * n, 0]) :
    Tall (fun j d => kk (512 * n + j.val) d) (View.ld (Val := Elt Ideal) (e' := .bf16) C (Rect.unit (s := S6144x256) off S1536x256.size inb)) := by
  subst h0
  intro j d
  have hj := j.isLt
  have key : ∀ (e : Fin 1536), View.ld (Val := Elt Ideal) (e' := .bf16) C (Rect.unit (s := S6144x256) _ S1536x256.size inb) (ix2 e d)
      = C (ix2 ⟨1536 * n + e.val, by omega⟩ d) := by
    intro e
    refine View.ld_unit_apply_of (Val := Elt Ideal) (e := .bf16) C _ _ inb _ _ fun a => ?_
    match a with
    | ⟨0, _⟩ => rfl
    | ⟨1, _⟩ => exact (Nat.zero_add _).symm
  rw [key, key, key]
  exact h ⟨n, hn⟩ j d

/-- Row `e` of block `n` of the second layout. -/
def tallRow (kk : ℕ → Fin 256 → ℝ) (n e : ℕ) (d : Fin 256) : EReal :=
  if e < 512 then ((kk (512 * n + e) d : ℝ) : EReal) else if e - 512 < 512 then 0 else ((kk (512 * n + (e - 512 - 512)) d : ℝ) : EReal)

/-- The store of block 0 holds the rows of block 0 of the second layout. -/
theorem pay9_row {x : FVec Ideal S1x2048x256 .f32} (hx : ∀ (t : Fin 2048) d, x (ix3 0 t d) = ((kk t.val d : ℝ) : EReal))
    (e : Fin 1536) (d : Fin 256) : k0_pay9 (F := Ideal) x (ix2 e d) = tallRow kk 0 e.val d := by
  pointwise [k0_pay9, k0_pay7, k0_pay6, k0_pay5]
  simp only [hx, ← EReal.coe_sub, sub_self, EReal.coe_zero, tallRow, dite_eq_ite, Nat.reduceMul, Nat.zero_add]

/-- The store of block 1 holds the rows of block 1 of the second layout. -/
theorem pay10_row {x : FVec Ideal S1x2048x256 .f32} (hx : ∀ (t : Fin 2048) d, x (ix3 0 t d) = ((kk t.val d : ℝ) : EReal))
    (e : Fin 1536) (d : Fin 256) : k0_pay10 (F := Ideal) x (ix2 e d) = tallRow kk 1 e.val d := by
  pointwise [k0_pay10, k0_pay7, k0_pay6, k0_pay5]
  simp only [hx, ← EReal.coe_sub, sub_self, EReal.coe_zero, tallRow, dite_eq_ite, Nat.reduceMul, Nat.zero_add]

/-- The store of block 2 holds the rows of block 2 of the second layout. -/
theorem pay11_row {x : FVec Ideal S1x2048x256 .f32} (hx : ∀ (t : Fin 2048) d, x (ix3 0 t d) = ((kk t.val d : ℝ) : EReal))
    (e : Fin 1536) (d : Fin 256) : k0_pay11 (F := Ideal) x (ix2 e d) = tallRow kk 2 e.val d := by
  pointwise [k0_pay11, k0_pay7, k0_pay6, k0_pay5]
  simp only [hx, ← EReal.coe_sub, sub_self, EReal.coe_zero, tallRow, dite_eq_ite, Nat.reduceMul, Nat.zero_add]

/-- The store of block 3 holds the rows of block 3 of the second layout. -/
theorem pay12_row {x : FVec Ideal S1x2048x256 .f32} (hx : ∀ (t : Fin 2048) d, x (ix3 0 t d) = ((kk t.val d : ℝ) : EReal))
    (e : Fin 1536) (d : Fin 256) : k0_pay12 (F := Ideal) x (ix2 e d) = tallRow kk 3 e.val d := by
  pointwise [k0_pay12, k0_pay7, k0_pay6, k0_pay5]
  simp only [hx, ← EReal.coe_sub, sub_self, EReal.coe_zero, tallRow, dite_eq_ite, Nat.reduceMul, Nat.zero_add]

/-- The second scratch array is filled by four stores, one per block of 512 rows. -/
theorem canon_tall {x : FVec Ideal S1x2048x256 .f32} (hx : ∀ (t : Fin 2048) d, x (ix3 0 t d) = ((kk t.val d : ℝ) : EReal)) (i3 i2 i1 i0) :
    TallAll kk (View.canon (Val := Elt Ideal) (s := S6144x256) (e := .bf16)
      [⟨Rect.unit ![4608, 0] S1536x256.size i3, k0_pay12 (F := Ideal) x⟩, ⟨Rect.unit ![3072, 0] S1536x256.size i2, k0_pay11 (F := Ideal) x⟩,
       ⟨Rect.unit ![1536, 0] S1536x256.size i1, k0_pay10 (F := Ideal) x⟩, ⟨Rect.unit ![0, 0] S1536x256.size i0, k0_pay9 (F := Ideal) x⟩]) := by
  have key : ∀ (b : Fin 4) (e : Fin 1536) (d : Fin 256), (View.canon (Val := Elt Ideal) (s := S6144x256) (e := .bf16)
      [⟨Rect.unit ![4608, 0] S1536x256.size i3, k0_pay12 (F := Ideal) x⟩, ⟨Rect.unit ![3072, 0] S1536x256.size i2, k0_pay11 (F := Ideal) x⟩,
       ⟨Rect.unit ![1536, 0] S1536x256.size i1, k0_pay10 (F := Ideal) x⟩, ⟨Rect.unit ![0, 0] S1536x256.size i0, k0_pay9 (F := Ideal) x⟩])
      (ix2 ⟨1536 * b.val + e.val, by omega⟩ d) = tallRow kk b.val e.val d := by
    intro b e d
    refine View.canon_eq_of_allAt _ _ _ ?_ ?_
    · exact View.cover_of_tiledL (s := S6144x256) _ S1536x256.size (by sl_kernel_rfl) _
    have tile : ∀ (n : ℕ) (w : FVec Ideal S1536x256 .bf16), n < 4 → (∀ (e : Fin 1536) (d : Fin 256), w (ix2 e d) = tallRow kk n e.val d) →
        ∀ off, off = 1536 * n → View.TileAt (Val := Elt Ideal) (S := S6144x256) (e := .bf16) (ix2 ⟨1536 * b.val + e.val, by omega⟩ d) ![off, 0] S1536x256.size w
          (tallRow kk b.val e.val d) := by
      intro n w hn hw off hoff y hy
      obtain ⟨a, c, rfl⟩ : ∃ (a : Fin 1536) (c : Fin 256), y = ix2 a c := ⟨y 0, y 1, eq_ix2 y⟩
      have h0 : 1536 * b.val + e.val = off + a.val := hy 0
      have h1 : d.val = 0 + c.val := hy 1
      have hb : b.val = n := by omega
      have he : e = a := Fin.ext (by omega)
      have hd : d = c := Fin.ext (by omega)
      rw [hw, hb, he, hd]
    exact View.allAt_cons_unit _ _ _ _ _ (tile 3 _ (by omega) (pay12_row hx) _ rfl)
      (View.allAt_cons_unit _ _ _ _ _ (tile 2 _ (by omega) (pay11_row hx) _ rfl)
      (View.allAt_cons_unit _ _ _ _ _ (tile 1 _ (by omega) (pay10_row hx) _ rfl)
      (View.allAt_cons_unit _ _ _ _ _ (tile 0 _ (by omega) (pay9_row hx) _ rfl) (View.allAt_nil _ _))))
  intro b j d
  refine ⟨(key b ⟨j.val, by omega⟩ d).trans ?_, (key b ⟨512 + j.val, by omega⟩ d).trans ?_, (key b ⟨1024 + j.val, by omega⟩ d).trans ?_⟩
  · simp only [tallRow, j.isLt, if_true]
  · simp only [tallRow, row_a, row_b, if_true, if_false]
  · simp only [tallRow, row_c, row_d, row_e, if_false]

end Cert.QK
-- ==== Proof.Trips.lean ====
module

public import proofs.«01_k».proof.Proof.Layout
public import proofs.«01_k».proof.Proof.Gen.KernelIdeal.Loops

@[expose] public section

/-!
  The kernel's loop over the earlier blocks of keys: how many trips it makes, which rows each trip reads, and what
  the two running sums hold after every trip. A second loop follows for a remainder; it makes no trip.
-/

set_option maxRecDepth 16384

noncomputable section

namespace Cert.QK

open Idealize.ShloMosaic
open Cert.KernelIdeal Cert.KernelIdeal.Gen

/-- The number of a block inside its sequence. -/
abbrev blk (i : grid0.Coords) : ℕ := (i 1).val

/-- There are four blocks in a sequence. -/
theorem blk_lt (i : grid0.Coords) : blk i < 4 := (i 1).isLt

/-- The first loop makes one trip for each earlier block. -/
theorem trips1 (i : grid0.Coords) : (k0_t1_loop i).trips = blk i := by
  have h : ∀ n : Fin 4, Scf.trips (0#32) (Scalar.addi 0#32 (Scalar.muli (Scalar.divsi (Scalar.subi (BitVec.ofNat 32 n.val) 0#32) 1#32) 1#32)) (1#32) = n.val := by
    decide +kernel
  exact h (i 1)

/-- The second loop makes no trips. -/
theorem trips2 (i : grid0.Coords) : (k0_t2_loop i).trips = 0 := by
  have h : ∀ n : Fin 4, Scf.trips (Scalar.addi 0#32 (Scalar.muli (Scalar.divsi (Scalar.subi (BitVec.ofNat 32 n.val) 0#32) 1#32) 1#32))
      (Scalar.addi 0#32 (Scalar.subi (BitVec.ofNat 32 n.val) 0#32)) (1#32) = 0 := by
    decide +kernel
  exact h (i 1)

/-- Where a load starts: the own keys. -/
theorem off1_eq (i : grid0.Coords) : k0_off1 i = ![512 * blk i, 0] := by
  have h : ∀ n : Fin 4, (Scalar.indexCast (Scalar.muli (BitVec.ofNat 32 n.val) 512#32)).toNat = 512 * n.val := by decide +kernel
  exact congrArg (fun x => ![x, 0]) (h (i 1))

/-- Where a load starts: the zero part beside the own keys. -/
theorem off2_eq (i : grid0.Coords) : k0_off2 i = ![512 * blk i, 256] := by
  have h : ∀ n : Fin 4, (Scalar.indexCast (Scalar.muli (BitVec.ofNat 32 n.val) 512#32)).toNat = 512 * n.val := by decide +kernel
  exact congrArg (fun x => ![x, 256]) (h (i 1))

/-- Where a load starts: the own keys in the wide layout. -/
theorem off7_eq (i : grid0.Coords) : k0_off7 i = ![512 * blk i, 0] := by
  have h : ∀ n : Fin 4, (Scalar.indexCast (Scalar.muli (BitVec.ofNat 32 n.val) 512#32)).toNat = 512 * n.val := by decide +kernel
  exact congrArg (fun x => ![x, 0]) (h (i 1))

/-- Where a load starts: the own keys in the tall layout. -/
theorem off8_eq (i : grid0.Coords) : k0_off8 i = ![1536 * blk i, 0] := by
  have h : ∀ n : Fin 4, (Scalar.indexCast (Scalar.muli 3#32 (Scalar.muli (BitVec.ofNat 32 n.val) 512#32))).toNat = 1536 * n.val := by decide +kernel
  exact congrArg (fun x => ![x, 0]) (h (i 1))

/-- Where a load starts: a trip of the first loop, wide layout. -/
theorem off3_eq (i : grid0.Coords) (k : Fin (k0_t1_loop i).trips) : k0_off3 i k = ![512 * k.val, 0] := by
  have h : ∀ n : Fin 4, (Scalar.indexCast (Scalar.muli (Scf.iv 0#32 1#32 n.val) 512#32)).toNat = 512 * n.val := by decide +kernel
  exact congrArg (fun x => ![x, 0]) (h ⟨k.val, by have h1 := k.isLt; have h2 := blk_lt i; have h3 := trips1 i; omega⟩)

/-- Where a load starts: a trip of the first loop, tall layout. -/
theorem off4_eq (i : grid0.Coords) (k : Fin (k0_t1_loop i).trips) : k0_off4 i k = ![1536 * k.val, 0] := by
  have h : ∀ n : Fin 4, (Scalar.indexCast (Scalar.muli 3#32 (Scalar.muli (Scf.iv 0#32 1#32 n.val) 512#32))).toNat = 1536 * n.val := by decide +kernel
  exact congrArg (fun x => ![x, 0]) (h ⟨k.val, by have h1 := k.isLt; have h2 := blk_lt i; have h3 := trips1 i; omega⟩)

variable (𝒱 : Variants) (c : Dev nD) (bd : Option 𝒱.V) (i : grid0.Coords)
variable (a2 : Memref sig .tc .vmem S1x512x256 .f32) (h2 : a2.IsWhole)
  (a3 : Memref sig .tc .vmem S1x2048x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x512x256 .f32) (h6 : a6.IsWhole) (a7 : Memref sig .tc .vmem S1x256x256 .f32) (h7 : a7.IsWhole)
  (a8 : Memref sig .tc .vmem S2048x768 .bf16) (h8 : a8.IsWhole) (a9 : Memref sig .tc .vmem S6144x256 .bf16) (h9 : a9.IsWhole)
  (a10 : Memref sig .tc .smem S1x1 .f32) (h10 : a10.IsWhole)

/-- One trip: the two running sums go through the two accumulations over the block the trip reads. -/
theorem trip1_eq (v3 : Vec Ideal S1x512x256 .f32) (v12 v14 : Vec Ideal S512x256 .bf16) (X8 : BufTy.Contents (Elt Ideal) a8.view.ty)
    (X9 : BufTy.Contents (Elt Ideal) a9.view.ty) (k : Fin (k0_t1_loop i).trips) (acc : FVec Ideal S512x256 .f32 × FVec Ideal S512x1 .f32) :
    tripR_k0_t1 (F := Ideal) 𝒱 c bd i a2 h2 a3 h3 a4 h4 a5 h5 a6 h6 a7 h7 a8 h8 a9 h9 a10 h10 v3 v12 v14 X8 X9 k acc
      = (k0_pay19 v3 v12 v14 acc.1
          (View.ld (Val := Elt Ideal) (e' := .bf16) (a8.view.read (Elt Ideal) X8) (Rect.unit (s := S2048x768) (k0_off3 i k) S512x768.size (k0_off3_inb i k)))
          (View.ld (Val := Elt Ideal) (e' := .bf16) (a9.view.read (Elt Ideal) X9) (Rect.unit (s := S6144x256) (k0_off4 i k) S1536x256.size (k0_off4_inb i k))),
         k0_pay18 v3 v12 v14 acc.2
          (View.ld (Val := Elt Ideal) (e' := .bf16) (a8.view.read (Elt Ideal) X8) (Rect.unit (s := S2048x768) (k0_off3 i k) S512x768.size (k0_off3_inb i k)))) := by
  unfold tripR_k0_t1 trip_k0_t1
  rfl

variable {kk : ℕ → Fin 256 → ℝ} {Q K : Fin 512 → Fin 256 → ℝ}

/-- A sum over the first `n + 1` blocks is the sum over the first `n` and the sum over block `n`. -/
theorem sum_block (n : ℕ) (f : ℕ → ℝ) :
    ∑ s ∈ Finset.range (512 * (n + 1)), f s = ∑ s ∈ Finset.range (512 * n), f s + ∑ j : Fin 512, f (512 * n + j.val) := by
  rw [Nat.mul_succ, Finset.sum_range_add, Finset.sum_range (fun x => f (512 * n + x))]

/-- After `n` trips the sums range over the first `512 n` keys. -/
theorem loop1 {v3 : Vec Ideal S1x512x256 .f32} {v12 v14 : Vec Ideal S512x256 .bf16} {X8 : BufTy.Contents (Elt Ideal) a8.view.ty}
    {X9 : BufTy.Contents (Elt Ideal) a9.view.ty} (hw : WideAll kk (a8.view.read (Elt Ideal) X8)) (ht : TallAll kk (a9.view.read (Elt Ideal) X9))
    (hq : ∀ l d, v3 (ix3 0 l d) = ((Q l d : ℝ) : EReal)) (h12 : ∀ l d, v12 (ix2 l d) = ((K l d : ℝ) : EReal)) (h14 : ∀ l d, v14 (ix2 l d) = (0 : EReal)) :
    ∀ n, n ≤ (k0_t1_loop i).trips →
      (∀ l d, (st_k0_t1 (F := Ideal) 𝒱 c bd i a2 h2 a3 h3 a4 h4 a5 h5 a6 h6 a7 h7 a8 h8 a9 h9 a10 h10 v3 v12 v14 X8 X9 (k0_pay15, k0_pay16) n).1 (ix2 l d)
        = ((∑ s ∈ Finset.range (512 * n), (∑ e, Q l e * kk s e) * kk s d : ℝ) : EReal)) ∧
      (∀ l, (st_k0_t1 (F := Ideal) 𝒱 c bd i a2 h2 a3 h3 a4 h4 a5 h5 a6 h6 a7 h7 a8 h8 a9 h9 a10 h10 v3 v12 v14 X8 X9 (k0_pay15, k0_pay16) n).2 (ix2 l 0)
        = ((2 * ∑ s ∈ Finset.range (512 * n), (∑ e, K l e * kk s e) ^ 2 : ℝ) : EReal)) := by
  intro n
  induction n with
  | zero =>
    intro _
    rw [st_k0_t1_zero]
    constructor
    · intro l d; pointwise [k0_pay15]; simp
    · intro l; pointwise [k0_pay16]; simp
  | succ n ih =>
    intro hn
    obtain ⟨iha, ihc⟩ := ih (by omega)
    have hn4 : n < 4 := by rw [trips1] at hn; have := blk_lt i; omega
    rw [st_k0_t1_succ 𝒱 c bd i a2 h2 a3 h3 a4 h4 a5 h5 a6 h6 a7 h7 a8 h8 a9 h9 a10 h10 v3 v12 v14 X8 X9 (k0_pay15, k0_pay16) ⟨n, hn⟩, trip1_eq]
    have hW := ld_wide hw n hn4 (k0_off3_inb i ⟨n, hn⟩) (off3_eq i ⟨n, hn⟩)
    have hT := ld_tall ht n hn4 (k0_off4_inb i ⟨n, hn⟩) (off4_eq i ⟨n, hn⟩)
    constructor
    · intro l d
      refine (pay19_apply iha hq hW hT l d).trans ?_
      rw [sum_block]
    · intro l
      refine (pay18_apply ihc h12 h14 hW l).trans ?_
      rw [sum_block, mul_add]

/-- After both loops the sums range over all keys of the earlier blocks. -/
theorem loops {v3 : Vec Ideal S1x512x256 .f32} {v12 v14 : Vec Ideal S512x256 .bf16} {X8 : BufTy.Contents (Elt Ideal) a8.view.ty}
    {X9 : BufTy.Contents (Elt Ideal) a9.view.ty} (hw : WideAll kk (a8.view.read (Elt Ideal) X8)) (ht : TallAll kk (a9.view.read (Elt Ideal) X9))
    (hq : ∀ l d, v3 (ix3 0 l d) = ((Q l d : ℝ) : EReal)) (h12 : ∀ l d, v12 (ix2 l d) = ((K l d : ℝ) : EReal)) (h14 : ∀ l d, v14 (ix2 l d) = (0 : EReal))
    {S : FVec Ideal S512x256 .f32 × FVec Ideal S512x1 .f32}
    (hS : S = st_k0_t1 (F := Ideal) 𝒱 c bd i a2 h2 a3 h3 a4 h4 a5 h5 a6 h6 a7 h7 a8 h8 a9 h9 a10 h10 v3 v12 v14 X8 X9 (k0_pay15, k0_pay16)
      (Scf.trips (k0_t1_loop i).lb (k0_t1_loop i).ub (k0_t1_loop i).st)) :
      (∀ l d, (st_k0_t2 (F := Ideal) 𝒱 c bd i a2 h2 a3 h3 a4 h4 a5 h5 a6 h6 a7 h7 a8 h8 a9 h9 a10 h10 v3 v12 v14 X8 X9 (S.1, S.2)
          (Scf.trips (k0_t2_loop i).lb (k0_t2_loop i).ub (k0_t2_loop i).st)).1 (ix2 l d)
        = ((∑ s ∈ Finset.range (512 * blk i), (∑ e, Q l e * kk s e) * kk s d : ℝ) : EReal)) ∧
      (∀ l, (st_k0_t2 (F := Ideal) 𝒱 c bd i a2 h2 a3 h3 a4 h4 a5 h5 a6 h6 a7 h7 a8 h8 a9 h9 a10 h10 v3 v12 v14 X8 X9 (S.1, S.2)
          (Scf.trips (k0_t2_loop i).lb (k0_t2_loop i).ub (k0_t2_loop i).st)).2 (ix2 l 0)
        = ((2 * ∑ s ∈ Finset.range (512 * blk i), (∑ e, K l e * kk s e) ^ 2 : ℝ) : EReal)) := by
  have e : Scf.trips (k0_t2_loop i).lb (k0_t2_loop i).ub (k0_t2_loop i).st = 0 := trips2 i
  rw [e, st_k0_t2_zero, hS]
  have := loop1 𝒱 c bd i a2 h2 a3 h3 a4 h4 a5 h5 a6 h6 a7 h7 a8 h8 a9 h9 a10 h10 hw ht hq h12 h14 (k0_t1_loop i).trips le_rfl
  rw [trips1] at this
  rw [show Scf.trips (k0_t1_loop i).lb (k0_t1_loop i).ub (k0_t1_loop i).st = blk i from trips1 i]
  exact this

end Cert.QK
-- ==== Proof.Gram.lean ====
module

public import Mathlib.Algebra.BigOperators.Fin
public import Mathlib.Algebra.BigOperators.Ring.Finset
public import Mathlib.Data.Real.Basic
public import Mathlib.Algebra.Order.BigOperators.Group.Finset
public import Mathlib.Algebra.BigOperators.Field
public import Mathlib.Tactic.Ring
public import Mathlib.Tactic.Linarith

@[expose] public section

/-!
  The equation between the two programs, over the real numbers. With key rows `k_s`, the matrix after the keys
  `s < n` is `P = ∑ k_s k_sᵀ`. The squared Frobenius norm of `P` is the sum of the squares of all products
  `k_s · k_t`, and that sum grows at key `t` by twice the squares of the products with the earlier keys and once
  the square of the product of the key with itself. `P q` is the sum of the keys weighted by their products with `q`.
-/

noncomputable section

namespace Cert.QK

open Finset

variable {D : ℕ} (kk qq : ℕ → Fin D → ℝ)

/-- The product of two keys. -/
def gram (s t : ℕ) : ℝ := ∑ d, kk s d * kk t d

/-- The product of a query and a key. -/
def score (t s : ℕ) : ℝ := ∑ d, qq t d * kk s d

/-- What key `t` adds to the squared norm. -/
def added (t : ℕ) : ℝ := 2 * ∑ s ∈ range t, gram kk t s ^ 2 + gram kk t t ^ 2

/-- The squared norm after the first `n` keys. -/
def normSq (n : ℕ) : ℝ := ∑ t ∈ range n, added kk t

/-- The matrix after the first `n` keys. -/
def mat (n : ℕ) (a b : Fin D) : ℝ := ∑ s ∈ range n, kk s a * kk s b

/-- The matrix after the first `n` keys, applied to query `t`. -/
def applied (n t : ℕ) (d : Fin D) : ℝ := ∑ s ∈ range n, score kk qq t s * kk s d

/-- The product of two keys doesn't depend on their order. -/
theorem gram_comm (s t : ℕ) : gram kk s t = gram kk t s := sum_congr rfl fun _ _ => mul_comm _ _

/-- The squared norm is not negative. -/
theorem normSq_nonneg (n : ℕ) : 0 ≤ normSq kk n :=
  sum_nonneg fun t _ => add_nonneg (mul_nonneg (by norm_num) (sum_nonneg fun s _ => sq_nonneg _)) (sq_nonneg _)

/-- The squared norm is the sum of the squares of all products. -/
theorem normSq_eq_gram (n : ℕ) : normSq kk n = ∑ s ∈ range n, ∑ t ∈ range n, gram kk s t ^ 2 := by
  induction n with
  | zero => simp [normSq]
  | succ n ih =>
    have e : normSq kk (n + 1) = normSq kk n + added kk n := sum_range_succ _ _
    rw [e, ih, sum_range_succ]
    simp only [sum_range_succ _ n, sum_add_distrib, added]
    rw [sum_congr rfl fun s (_ : s ∈ range n) => show gram kk s n ^ 2 = gram kk n s ^ 2 by rw [gram_comm]]
    ring

/-- The sum of the squares of the matrix's elements is the squared norm. -/
theorem sum_mat_sq (n : ℕ) : ∑ a, ∑ b, mat kk n a b * mat kk n a b = normSq kk n := by
  rw [normSq_eq_gram]
  have e : ∀ s t, gram kk s t ^ 2 = ∑ a, ∑ b, (kk s a * kk s b) * (kk t a * kk t b) := by
    intro s t
    rw [sq, gram, sum_mul_sum]
    exact sum_congr rfl fun a _ => sum_congr rfl fun b _ => by ring
  simp only [e, mat, sum_mul_sum]
  calc ∑ a, ∑ b, ∑ s ∈ range n, ∑ t ∈ range n, (kk s a * kk s b) * (kk t a * kk t b)
      = ∑ a, ∑ s ∈ range n, ∑ b, ∑ t ∈ range n, (kk s a * kk s b) * (kk t a * kk t b) := sum_congr rfl fun a _ => sum_comm
    _ = ∑ s ∈ range n, ∑ a, ∑ b, ∑ t ∈ range n, (kk s a * kk s b) * (kk t a * kk t b) := sum_comm
    _ = ∑ s ∈ range n, ∑ t ∈ range n, ∑ a, ∑ b, (kk s a * kk s b) * (kk t a * kk t b) := sum_congr rfl fun s _ => by
        rw [← sum_comm]
        rw [sum_comm]
        exact (sum_congr rfl fun a _ => sum_comm).trans sum_comm

/-- The matrix divided by a number and applied to a query. -/
theorem mat_div_apply (n t : ℕ) (c : ℝ) (a : Fin D) :
    ∑ b, mat kk n a b / c * qq t b = applied kk qq n t a / c := by
  simp only [mat, applied, score, sum_div, sum_mul]
  rw [sum_comm]
  refine sum_congr rfl fun s _ => ?_
  exact sum_congr rfl fun b _ => by ring

/-- The entries of a block up to a place, with everything before the block, are everything up to that place. -/
theorem sum_upto {N : ℕ} (n : ℕ) (l : Fin N) (f : ℕ → ℝ) :
    ∑ s ∈ range n, f s + ∑ j : Fin N, (if j ≤ l then f (n + j.val) else 0) = ∑ s ∈ range (n + l.val + 1), f s := by
  have e : ∑ j : Fin N, (if j ≤ l then f (n + j.val) else 0) = ∑ j ∈ range (l.val + 1), f (n + j) := by
    have e1 : ∑ j : Fin N, (if j ≤ l then f (n + j.val) else 0) = ∑ j ∈ range N, (if j ≤ l.val then f (n + j) else 0) :=
      Fin.sum_univ_eq_sum_range (fun j => if j ≤ l.val then f (n + j) else 0) N
    rw [e1, ← sum_filter]
    refine sum_congr ?_ fun _ _ => rfl
    ext j
    have := l.isLt
    simp only [mem_filter, mem_range]
    omega
  rw [e, add_assoc, sum_range_add f n]

/-- What a block's place adds to the squared norm, from the products with the earlier blocks and, weighted by two, one
    or zero, with the block itself. -/
theorem added_block {N : ℕ} (n : ℕ) (l : Fin N) :
    2 * ∑ s ∈ range n, gram kk (n + l.val) s ^ 2 + ∑ j : Fin N, gram kk (n + l.val) (n + j.val) ^ 2 * (if j < l then 2 else if j = l then 1 else 0)
      = added kk (n + l.val) := by
  have e : ∀ j : Fin N, gram kk (n + l.val) (n + j.val) ^ 2 * (if j < l then 2 else if j = l then 1 else 0)
      = 2 * (if j ≤ l then gram kk (n + l.val) (n + j.val) ^ 2 else 0) - (if j = l then gram kk (n + l.val) (n + j.val) ^ 2 else 0) := by
    intro j
    rcases lt_trichotomy j l with h | h | h
    · simp [h, h.le, h.ne, mul_comm]
    · subst h; simp; ring
    · simp [not_lt.2 h.le, not_le.2 h, h.ne']
  have u := sum_upto n l fun s => gram kk (n + l.val) s ^ 2
  rw [sum_range_succ] at u
  rw [sum_congr rfl fun j _ => e j, sum_sub_distrib, ← mul_sum, sum_ite_eq' univ l]
  simp only [mem_univ, if_true, added]
  linarith

end Cert.QK
-- ==== Proof.BlockValue.lean ====
module

public import proofs.«01_k».proof.Proof.Trips
public import proofs.«01_k».proof.Proof.Gram

@[expose] public section

/-!
  What one block computes. The block reads 512 queries and the 512 keys at the same places, and holds the sums its loop
  has made over the earlier keys: its outputs are those of the closed form at each of its places.
-/

set_option maxRecDepth 16384

noncomputable section

namespace Cert.QK

open Idealize.ShloMosaic
open Cert.KernelIdeal Cert.KernelIdeal.Gen

variable {kk qq : ℕ → Fin 256 → ℝ} {n : ℕ}
  {v3 : Vec Ideal S1x512x256 .f32} {v12 v14 : Vec Ideal S512x256 .bf16} {v31 : Vec Ideal S512x768 .bf16} {v57 : Vec Ideal S1536x256 .bf16}
  {A : FVec Ideal S512x256 .f32} {C : FVec Ideal S512x1 .f32}

/-- What the block's places add to the squared norm. -/
theorem block_added (h12 : ∀ l d, v12 (ix2 l d) = ((kk (n + l.val) d : ℝ) : EReal)) (h14 : ∀ l d, v14 (ix2 l d) = (0 : EReal))
    (hw : Wide (fun j d => kk (n + j.val) d) v31)
    (hC : ∀ l, C (ix2 l 0) = ((2 * ∑ s ∈ Finset.range n, (∑ e, kk (n + l.val) e * kk s e) ^ 2 : ℝ) : EReal)) (l : Fin 512) :
    k0_pay27 (F := Ideal) rowNo colNo k0_pay14 C (k0_pay24 v3 v12 v14 v31) k0_pay26 (ix2 l 0) = ((added kk (n + l.val) : ℝ) : EReal) := by
  rw [pay27_apply hC (pay24_apply h12 h14 hw) l]
  exact congrArg _ (added_block kk n l)

/-- The squared norm at each of the block's places. -/
theorem block_norm (h12 : ∀ l d, v12 (ix2 l d) = ((kk (n + l.val) d : ℝ) : EReal)) (h14 : ∀ l d, v14 (ix2 l d) = (0 : EReal))
    (hw : Wide (fun j d => kk (n + j.val) d) v31)
    (hC : ∀ l, C (ix2 l 0) = ((2 * ∑ s ∈ Finset.range n, (∑ e, kk (n + l.val) e * kk s e) ^ 2 : ℝ) : EReal))
    {cr : EReal} (hr : cr = ((normSq kk n : ℝ) : EReal)) (l : Fin 512) :
    k0_pay29 (F := Ideal) rowNo colNo k0_pay14 C (k0_pay24 v3 v12 v14 v31) k0_pay26 cr (ix2 l 0) = ((normSq kk (n + l.val + 1) : ℝ) : EReal) := by
  rw [pay29_apply hr (block_added h12 h14 hw hC) l, add_comm]
  exact congrArg _ (sum_upto n l (added kk))

/-- The squared norm carried to the next block. -/
theorem block_carry (h12 : ∀ l d, v12 (ix2 l d) = ((kk (n + l.val) d : ℝ) : EReal)) (h14 : ∀ l d, v14 (ix2 l d) = (0 : EReal))
    (hw : Wide (fun j d => kk (n + j.val) d) v31)
    (hC : ∀ l, C (ix2 l 0) = ((2 * ∑ s ∈ Finset.range n, (∑ e, kk (n + l.val) e * kk s e) ^ 2 : ℝ) : EReal))
    {cr : EReal} (hr : cr = ((normSq kk n : ℝ) : EReal)) :
    k0_pay30 (F := Ideal) rowNo colNo k0_pay14 C (k0_pay24 v3 v12 v14 v31) k0_pay26 cr = ((normSq kk (n + 512) : ℝ) : EReal) := by
  rw [pay30_apply hr (block_added h12 h14 hw hC), normSq, normSq, Finset.sum_range_add, Finset.sum_range (fun x => added kk (n + x))]

/-- The matrix applied to the query at each of the block's places. -/
theorem block_applied (h3 : ∀ l d, v3 (ix3 0 l d) = ((qq (n + l.val) d : ℝ) : EReal))
    (hw : Wide (fun j d => kk (n + j.val) d) v31) (ht : Tall (fun j d => kk (n + j.val) d) v57)
    (hA : ∀ l d, A (ix2 l d) = ((∑ s ∈ Finset.range n, (∑ e, qq (n + l.val) e * kk s e) * kk s d : ℝ) : EReal)) (l : Fin 512) (d : Fin 256) :
    k0_pay28 (F := Ideal) A (k0_pay25 v3 v12 v14 v31) v57 (ix2 l d) = ((applied kk qq (n + l.val + 1) (n + l.val) d : ℝ) : EReal) := by
  rw [pay28_apply hA (pay25_apply h3 hw) ht l d]
  refine congrArg _ (Eq.trans ?_ (sum_upto n l fun s => score kk qq (n + l.val) s * kk s d))
  refine congrArg _ (Finset.sum_congr rfl fun j _ => ?_)
  simp only [ite_mul, zero_mul]
  rfl

/-- One element of the block's first output. -/
theorem block_out (h3 : ∀ l d, v3 (ix3 0 l d) = ((qq (n + l.val) d : ℝ) : EReal))
    (h12 : ∀ l d, v12 (ix2 l d) = ((kk (n + l.val) d : ℝ) : EReal)) (h14 : ∀ l d, v14 (ix2 l d) = (0 : EReal))
    (hw : Wide (fun j d => kk (n + j.val) d) v31) (ht : Tall (fun j d => kk (n + j.val) d) v57)
    (hA : ∀ l d, A (ix2 l d) = ((∑ s ∈ Finset.range n, (∑ e, qq (n + l.val) e * kk s e) * kk s d : ℝ) : EReal))
    (hC : ∀ l, C (ix2 l 0) = ((2 * ∑ s ∈ Finset.range n, (∑ e, kk (n + l.val) e * kk s e) ^ 2 : ℝ) : EReal))
    {cr : EReal} (hr : cr = ((normSq kk n : ℝ) : EReal)) (g s : FVec Ideal S1x256 .f32) (l : Fin 512) (d : Fin 256) :
    k0_pay1 (F := Ideal) (k0_pay28 A (k0_pay25 v3 v12 v14 v31) v57) (k0_pay29 rowNo colNo k0_pay14 C (k0_pay24 v3 v12 v14 v31) k0_pay26 cr) g s (ix3 0 l d)
      = outv (applied kk qq (n + l.val + 1) (n + l.val) d) (normSq kk (n + l.val + 1)) (g (ix2 0 d)) (s (ix2 0 d)) :=
  pay1_apply g s (block_applied h3 hw ht hA l d) (block_norm h12 h14 hw hC hr l) (normSq_nonneg kk _)

/-- The block's addition to the matrix, at the first block and at a later one. -/
theorem block_mat_first (hn : n = 0) (h12 : ∀ l d, v12 (ix2 l d) = ((kk (n + l.val) d : ℝ) : EReal)) (h14 : ∀ l d, v14 (ix2 l d) = (0 : EReal))
    (ht : Tall (fun j d => kk (n + j.val) d) v57) (a b : Fin 256) :
    k0_pay3 (F := Ideal) v12 v14 v57 (ix3 0 a b) = ((mat kk (n + 512) a b : ℝ) : EReal) := by
  rw [pay3_apply h12 h14 ht, mat, Finset.sum_range_add, Finset.sum_range (fun x => kk (n + x) a * kk (n + x) b)]
  subst hn
  simp

/-- Adding a block's outer products to the matrix before the block gives the matrix after it. -/
theorem block_mat_next {p : Vec Ideal S1x256x256 .f32} (hp : ∀ a b, p (ix3 0 a b) = ((mat kk n a b : ℝ) : EReal))
    (h12 : ∀ l d, v12 (ix2 l d) = ((kk (n + l.val) d : ℝ) : EReal)) (h14 : ∀ l d, v14 (ix2 l d) = (0 : EReal))
    (ht : Tall (fun j d => kk (n + j.val) d) v57) (a b : Fin 256) :
    k0_pay4 (F := Ideal) v12 v14 v57 p (ix3 0 a b) = ((mat kk (n + 512) a b : ℝ) : EReal) := by
  rw [pay4_apply hp h12 h14 ht, mat, mat, Finset.sum_range_add, Finset.sum_range (fun x => kk (n + x) a * kk (n + x) b)]

end Cert.QK
-- ==== Proof.PointValue.lean ====
module

public import proofs.«01_k».proof.Proof.BlockValue

@[expose] public section

/-!
  What one grid point computes from the contents of the two scratch arrays, however they were written: the loads it makes,
  its loops, and its outputs.
-/

set_option maxRecDepth 16384

noncomputable section

namespace Cert.QK

open Idealize.ShloMosaic
open Cert.KernelIdeal Cert.KernelIdeal.Gen

variable (𝒱 : Variants) (c : Dev nD) (bd : Option 𝒱.V) (i : grid0.Coords)
variable (a2 : Memref sig .tc .vmem S1x512x256 .f32) (h2 : a2.IsWhole)
  (a3 : Memref sig .tc .vmem S1x2048x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x512x256 .f32) (h6 : a6.IsWhole) (a7 : Memref sig .tc .vmem S1x256x256 .f32) (h7 : a7.IsWhole)
  (a8 : Memref sig .tc .vmem S2048x768 .bf16) (h8 : a8.IsWhole) (a9 : Memref sig .tc .vmem S6144x256 .bf16) (h9 : a9.IsWhole)
  (a10 : Memref sig .tc .smem S1x1 .f32) (h10 : a10.IsWhole)
  (x0 : Vec Ideal S1x512x256 .f32) (X8 : BufTy.Contents (Elt Ideal) a8.view.ty) (X9 : BufTy.Contents (Elt Ideal) a9.view.ty)

/-- The loads a point makes out of the scratch arrays: its own keys, the zero part beside them, its own keys in the wide
    and in the tall layout. -/
abbrev ownKeys : Vec Ideal S512x256 .bf16 := View.readAt (Elt Ideal) a8.view (Rect.unit (s := S2048x768) (k0_off1 i) S512x256.size (k0_off1_inb i)).toLoadRect X8
/-- The load of the zero part beside the point's own keys. -/
abbrev ownZeros : Vec Ideal S512x256 .bf16 := View.readAt (Elt Ideal) a8.view (Rect.unit (s := S2048x768) (k0_off2 i) S512x256.size (k0_off2_inb i)).toLoadRect X8
/-- The load of the point's own keys in the wide layout. -/
abbrev ownWide : Vec Ideal S512x768 .bf16 := View.readAt (Elt Ideal) a8.view (Rect.unit (s := S2048x768) (k0_off7 i) S512x768.size (k0_off7_inb i)).toLoadRect X8
/-- The load of the point's own keys in the tall layout. -/
abbrev ownTall : Vec Ideal S1536x256 .bf16 := View.readAt (Elt Ideal) a9.view (Rect.unit (s := S6144x256) (k0_off8 i) S1536x256.size (k0_off8_inb i)).toLoadRect X9

/-- The two sums after the first loop, and after the second. -/
abbrev sums1 : FVec Ideal S512x256 .f32 × FVec Ideal S512x1 .f32 :=
  st_k0_t1 (F := Ideal) 𝒱 c bd i a2 h2 a3 h3 a4 h4 a5 h5 a6 h6 a7 h7 a8 h8 a9 h9 a10 h10 x0 (ownKeys i a8 X8) (ownZeros i a8 X8) X8 X9
    (k0_pay15, k0_pay16) (Scf.trips (k0_t1_loop i).lb (k0_t1_loop i).ub (k0_t1_loop i).st)
/-- The two sums after the second loop. -/
abbrev sums2 : FVec Ideal S512x256 .f32 × FVec Ideal S512x1 .f32 :=
  st_k0_t2 (F := Ideal) 𝒱 c bd i a2 h2 a3 h3 a4 h4 a5 h5 a6 h6 a7 h7 a8 h8 a9 h9 a10 h10 x0 (ownKeys i a8 X8) (ownZeros i a8 X8) X8 X9
    ((sums1 𝒱 c bd i a2 h2 a3 h3 a4 h4 a5 h5 a6 h6 a7 h7 a8 h8 a9 h9 a10 h10 x0 X8 X9).1,
      (sums1 𝒱 c bd i a2 h2 a3 h3 a4 h4 a5 h5 a6 h6 a7 h7 a8 h8 a9 h9 a10 h10 x0 X8 X9).2)
    (Scf.trips (k0_t2_loop i).lb (k0_t2_loop i).ub (k0_t2_loop i).st)

variable {kk qq : ℕ → Fin 256 → ℝ} {x0 X8 X9}
  (hw : WideAll kk (a8.view.read (Elt Ideal) X8)) (ht : TallAll kk (a9.view.read (Elt Ideal) X9))
  (hq : ∀ (l : Fin 512) d, x0 (ix3 0 l d) = ((qq (512 * blk i + l.val) d : ℝ) : EReal))

include hw in
/-- The own keys are the keys of the point's block. -/
theorem own_keys (l : Fin 512) (d : Fin 256) : ownKeys i a8 X8 (ix2 l d) = ((kk (512 * blk i + l.val) d : ℝ) : EReal) :=
  ld_key hw (blk i) (blk_lt i) (k0_off1_inb i) (off1_eq i) l d

include hw in
/-- The part beside the own keys is zero. -/
theorem own_zeros (l : Fin 512) (d : Fin 256) : ownZeros i a8 X8 (ix2 l d) = (0 : EReal) :=
  ld_zero hw (blk i) (blk_lt i) (k0_off2_inb i) (off2_eq i) l d

include hw in
/-- The own keys in the wide layout are the keys of the point's block. -/
theorem own_wide : Wide (fun j d => kk (512 * blk i + j.val) d) (ownWide i a8 X8) :=
  ld_wide hw (blk i) (blk_lt i) (k0_off7_inb i) (off7_eq i)

include ht in
/-- The own keys in the tall layout are the keys of the point's block. -/
theorem own_tall : Tall (fun j d => kk (512 * blk i + j.val) d) (ownTall i a9 X9) :=
  ld_tall ht (blk i) (blk_lt i) (k0_off8_inb i) (off8_eq i)

include hw ht hq in
/-- A point's first output. -/
theorem point_out {cr : EReal} (hr : cr = ((normSq kk (512 * blk i) : ℝ) : EReal)) (g s : FVec Ideal S1x256 .f32) (l : Fin 512) (d : Fin 256) :
    k0_pay1 (F := Ideal)
      (k0_pay28 (sums2 𝒱 c bd i a2 h2 a3 h3 a4 h4 a5 h5 a6 h6 a7 h7 a8 h8 a9 h9 a10 h10 x0 X8 X9).1
        (k0_pay25 x0 (ownKeys i a8 X8) (ownZeros i a8 X8) (ownWide i a8 X8)) (ownTall i a9 X9))
      (k0_pay29 rowNo colNo k0_pay14 (sums2 𝒱 c bd i a2 h2 a3 h3 a4 h4 a5 h5 a6 h6 a7 h7 a8 h8 a9 h9 a10 h10 x0 X8 X9).2
        (k0_pay24 x0 (ownKeys i a8 X8) (ownZeros i a8 X8) (ownWide i a8 X8)) k0_pay26 cr) g s (ix3 0 l d)
      = outv (applied kk qq (512 * blk i + l.val + 1) (512 * blk i + l.val) d) (normSq kk (512 * blk i + l.val + 1)) (g (ix2 0 d)) (s (ix2 0 d)) := by
  obtain ⟨hA, hC⟩ := loops 𝒱 c bd i a2 h2 a3 h3 a4 h4 a5 h5 a6 h6 a7 h7 a8 h8 a9 h9 a10 h10 hw ht hq (own_keys i a8 hw) (own_zeros i a8 hw) rfl
  exact block_out hq (own_keys i a8 hw) (own_zeros i a8 hw) (own_wide i a8 hw) (own_tall i a9 ht) hA hC hr g s l d

include hw ht hq in
/-- The squared norm a point carries on. -/
theorem point_carry {cr : EReal} (hr : cr = ((normSq kk (512 * blk i) : ℝ) : EReal)) :
    k0_pay30 (F := Ideal) rowNo colNo k0_pay14 (sums2 𝒱 c bd i a2 h2 a3 h3 a4 h4 a5 h5 a6 h6 a7 h7 a8 h8 a9 h9 a10 h10 x0 X8 X9).2
        (k0_pay24 x0 (ownKeys i a8 X8) (ownZeros i a8 X8) (ownWide i a8 X8)) k0_pay26 cr
      = ((normSq kk (512 * blk i + 512) : ℝ) : EReal) := by
  obtain ⟨hA, hC⟩ := loops 𝒱 c bd i a2 h2 a3 h3 a4 h4 a5 h5 a6 h6 a7 h7 a8 h8 a9 h9 a10 h10 hw ht hq (own_keys i a8 hw) (own_zeros i a8 hw) rfl
  exact block_carry (own_keys i a8 hw) (own_zeros i a8 hw) (own_wide i a8 hw) hC hr

include hw ht in
/-- A point's second output: the matrix over the keys so far. -/
theorem point_mat_first (hb : blk i = 0) (a b : Fin 256) :
    k0_pay3 (F := Ideal) (ownKeys i a8 X8) (ownZeros i a8 X8) (ownTall i a9 X9) (ix3 0 a b) = ((mat kk (512 * blk i + 512) a b : ℝ) : EReal) :=
  block_mat_first (by rw [hb]) (own_keys i a8 hw) (own_zeros i a8 hw) (own_tall i a9 ht) a b

include hw ht in
/-- What a later point stores as its final matrix is the matrix after its block. -/
theorem point_mat_next {p : Vec Ideal S1x256x256 .f32} (hp : ∀ a b, p (ix3 0 a b) = ((mat kk (512 * blk i) a b : ℝ) : EReal)) (a b : Fin 256) :
    k0_pay4 (F := Ideal) (ownKeys i a8 X8) (ownZeros i a8 X8) (ownTall i a9 X9) p (ix3 0 a b) = ((mat kk (512 * blk i + 512) a b : ℝ) : EReal) :=
  block_mat_next hp (own_keys i a8 hw) (own_zeros i a8 hw) (own_tall i a9 ht) a b

end Cert.QK
-- ==== Proof.CaseFirst.lean ====
module

public import proofs.«01_k».proof.Proof.PointValue
public import proofs.«01_k».proof.Proof.Gen.KernelIdeal.Value

@[expose] public section

/-!
  The first block of a sequence: it fills both scratch arrays with the keys, starts the carried squared norm at zero, and
  its outputs are those of the closed form at its places.
-/

set_option maxRecDepth 16384

noncomputable section

namespace Cert.QK

open Idealize.ShloMosaic
open Cert.KernelIdeal Cert.KernelIdeal.Gen

variable (c : Dev nD) (i : grid0.Coords)
variable (a2 : Memref sig .tc .vmem S1x512x256 .f32) (h2 : a2.IsWhole)
  (a3 : Memref sig .tc .vmem S1x2048x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x512x256 .f32) (h6 : a6.IsWhole) (a7 : Memref sig .tc .vmem S1x256x256 .f32) (h7 : a7.IsWhole)
  (a8 : Memref sig .tc .vmem S2048x768 .bf16) (h8 : a8.IsWhole) (a9 : Memref sig .tc .vmem S6144x256 .bf16) (h9 : a9.IsWhole)
  (a10 : Memref sig .tc .smem S1x1 .f32) (h10 : a10.IsWhole)
  (hc0 : cond0_0 i) (hc1 : cond0_1 i) (hc2 : ¬cond0_2 i)
  (x0 : Vec Ideal S1x512x256 .f32) (x1 : Vec Ideal S1x2048x256 .f32) (x2 x3 : Vec Ideal S1x256 .f32)

variable {kk qq : ℕ → Fin 256 → ℝ}

/-- The start written out on two axes is zero on every axis. -/
theorem zero2 : (![0, 0] : Fin 2 → Nat) = fun _ => 0 := by funext a; match a with | ⟨0, _⟩ => rfl | ⟨1, _⟩ => rfl
/-- The start written out on three axes is zero on every axis. -/
theorem zero3 : (![0, 0, 0] : Fin 3 → Nat) = fun _ => 0 := by funext a; match a with | ⟨0, _⟩ => rfl | ⟨1, _⟩ => rfl | ⟨2, _⟩ => rfl

/-- A load of a whole buffer that holds `x` reads `x`. -/
theorem load_whole3 {d : Fin 3 → ℕ} (a : Memref sig .tc .vmem ⟨3, d⟩ .f32) (h : a.IsWhole) (x : Vec Ideal ⟨3, d⟩ .f32) (inb) :
    View.readAt (Elt Ideal) a.view (Rect.unit (s := ⟨3, d⟩) ![0, 0, 0] d inb).toLoadRect (h.unread x) = x := by
  show View.ld (a.view.read (Elt Ideal) (h.unread x)) (Rect.unit (s := ⟨3, d⟩) ![0, 0, 0] d inb) = x
  rw [h.read_unread]
  exact View.ld_unit_zero (S := ⟨3, d⟩) zero3 inb x

/-- A load of a whole buffer of two axes that holds `x` reads `x`. -/
theorem load_whole2 {d : Fin 2 → ℕ} {e : EltTy} {sp : Space} (a : Memref sig .tc sp ⟨2, d⟩ e) (h : a.IsWhole) (x : Vec Ideal ⟨2, d⟩ e) (inb) :
    View.readAt (Elt Ideal) a.view (Rect.unit (s := ⟨2, d⟩) ![0, 0] d inb).toLoadRect (h.unread x) = x := by
  show View.ld (a.view.read (Elt Ideal) (h.unread x)) (Rect.unit (s := ⟨2, d⟩) ![0, 0] d inb) = x
  rw [h.read_unread]
  exact View.ld_unit_zero (S := ⟨2, d⟩) zero2 inb x

/-- The first scratch array after the first block. -/
theorem first_wide (hx1 : ∀ (t : Fin 2048) d, x1 (ix3 0 t d) = ((kk t.val d : ℝ) : EReal)) :
    WideAll kk (sout0_A_0 (F := Ideal) c i a2 h2 a3 h3 a4 h4 a5 h5 a6 h6 a7 h7 a8 h8 a9 h9 a10 h10 hc0 hc1 hc2 x0 x1 x2 x3) := by
  unfold sout0_A_0
  rw [View.read_writes_eq_canon _ _ _ (scover0_A_0 c i a2 h2 a3 h3 a4 h4 a5 h5 a6 h6 a7 h7 a8 h8 a9 h9 a10 h10 hc0 hc1 hc2 x0 x1 x2 x3)]
  unfold kernelRun0_A
  dsimp only
  sl_unfold_words
  rw [View.canon_unit_zero zero2, load_whole3]
  exact pay8_wide hx1

/-- The second scratch array after the first block. -/
theorem first_tall (hx1 : ∀ (t : Fin 2048) d, x1 (ix3 0 t d) = ((kk t.val d : ℝ) : EReal)) :
    TallAll kk (sout0_A_1 (F := Ideal) c i a2 h2 a3 h3 a4 h4 a5 h5 a6 h6 a7 h7 a8 h8 a9 h9 a10 h10 hc0 hc1 hc2 x0 x1 x2 x3) := by
  unfold sout0_A_1
  rw [View.read_writes_eq_canon _ _ _ (scover0_A_1 c i a2 h2 a3 h3 a4 h4 a5 h5 a6 h6 a7 h7 a8 h8 a9 h9 a10 h10 hc0 hc1 hc2 x0 x1 x2 x3)]
  unfold kernelRun0_A
  dsimp only
  sl_unfold_words
  rw [load_whole3]
  exact canon_tall hx1 _ _ _ _

/-- The first scratch array as the point itself reads it back. -/
theorem stored_wide (hx1 : ∀ (t : Fin 2048) d, x1 (ix3 0 t d) = ((kk t.val d : ℝ) : EReal)) (f : BufTy.Contents (Elt Ideal) a8.view.ty) (inb) :
    WideAll kk (a8.view.read (Elt Ideal) (a8.view.writes (Elt Ideal) f
      [⟨Rect.unit (s := S2048x768) ![0, 0] S2048x768.size inb, k0_pay8 (F := Ideal) x1⟩])) := by
  rw [View.read_writes_eq_canon _ _ _ (View.cover_of_tiledL (s := S2048x768) _ S2048x768.size (by sl_kernel_rfl)), View.canon_unit_zero zero2]
  exact pay8_wide hx1

/-- The second scratch array as the point itself reads it back. -/
theorem stored_tall (hx1 : ∀ (t : Fin 2048) d, x1 (ix3 0 t d) = ((kk t.val d : ℝ) : EReal)) (f : BufTy.Contents (Elt Ideal) a9.view.ty) (i3 i2 i1 i0) :
    TallAll kk (a9.view.read (Elt Ideal) (a9.view.writes (Elt Ideal) f
      [⟨Rect.unit (s := S6144x256) ![4608, 0] S1536x256.size i3, k0_pay12 (F := Ideal) x1⟩, ⟨Rect.unit (s := S6144x256) ![3072, 0] S1536x256.size i2, k0_pay11 (F := Ideal) x1⟩,
       ⟨Rect.unit (s := S6144x256) ![1536, 0] S1536x256.size i1, k0_pay10 (F := Ideal) x1⟩, ⟨Rect.unit (s := S6144x256) ![0, 0] S1536x256.size i0, k0_pay9 (F := Ideal) x1⟩])) := by
  rw [View.read_writes_eq_canon _ _ _ (View.cover_of_tiledL (s := S6144x256) _ S1536x256.size (by sl_kernel_rfl))]
  exact canon_tall hx1 _ _ _ _

/-- The carried number starts at zero. -/
theorem zero_word (hb : blk i = 0) : Scalar.ofBits (F := Ideal) .f32 0x00000000#32 = ((normSq kk (512 * blk i) : ℝ) : EReal) := by
  rw [hb]
  simp only [normSq, Nat.mul_zero, Finset.range_zero, Finset.sum_empty]
  exact Ideal.ofBits_zero_f32

/-- The first output after the first block. -/
theorem first_out (hb : blk i = 0) (hx0 : ∀ (l : Fin 512) d, x0 (ix3 0 l d) = ((qq (512 * blk i + l.val) d : ℝ) : EReal))
    (hx1 : ∀ (t : Fin 2048) d, x1 (ix3 0 t d) = ((kk t.val d : ℝ) : EReal)) (l : Fin 512) (d : Fin 256) :
    out0_A_4 (F := Ideal) c i a2 h2 a3 h3 a4 h4 a5 h5 a6 h6 a7 h7 a8 h8 a9 h9 a10 h10 hc0 hc1 hc2 x0 x1 x2 x3 (ix3 0 l d)
      = outv (applied kk qq (512 * blk i + l.val + 1) (512 * blk i + l.val) d) (normSq kk (512 * blk i + l.val + 1)) (x2 (ix2 0 d)) (x3 (ix2 0 d)) := by
  unfold out0_A_4
  rw [View.read_writes_eq_canon _ _ _ (cover0_A_4 c i a2 h2 a3 h3 a4 h4 a5 h5 a6 h6 a7 h7 a8 h8 a9 h9 a10 h10 hc0 hc1 hc2 x0 x1 x2 x3)]
  unfold kernelRun0_A
  dsimp only
  sl_unfold_words
  rw [View.canon_unit_zero zero3, load_whole3, load_whole3]
  refine (point_out Variants.none c none i a2 h2 a3 h3 a4 h4 a5 h5 a6 h6 a7 h7 a8 h8 a9 h9 a10 h10 (stored_wide a8 x1 hx1 _ _) (stored_tall a9 x1 hx1 _ _ _ _ _) hx0 (zero_word i hb) _ _ l d).trans ?_
  rw [load_whole2, load_whole2]

/-- The second output after the first block. -/
theorem first_mat (hb : blk i = 0)
    (hx1 : ∀ (t : Fin 2048) d, x1 (ix3 0 t d) = ((kk t.val d : ℝ) : EReal)) (a b : Fin 256) :
    out0_A_5 (F := Ideal) c i a2 h2 a3 h3 a4 h4 a5 h5 a6 h6 a7 h7 a8 h8 a9 h9 a10 h10 hc0 hc1 hc2 x0 x1 x2 x3 (ix3 0 a b) = ((mat kk (512 * blk i + 512) a b : ℝ) : EReal) := by
  unfold out0_A_5
  rw [View.read_writes_eq_canon _ _ _ (cover0_A_5 c i a2 h2 a3 h3 a4 h4 a5 h5 a6 h6 a7 h7 a8 h8 a9 h9 a10 h10 hc0 hc1 hc2 x0 x1 x2 x3)]
  unfold kernelRun0_A
  dsimp only
  sl_unfold_words
  rw [View.canon_unit_zero zero3, load_whole3]
  exact point_mat_first i a8 a9 (stored_wide a8 x1 hx1 _ _) (stored_tall a9 x1 hx1 _ _ _ _ _) hb a b

/-- The carried number after the first block. -/
theorem first_carry (hb : blk i = 0) (hx0 : ∀ (l : Fin 512) d, x0 (ix3 0 l d) = ((qq (512 * blk i + l.val) d : ℝ) : EReal))
    (hx1 : ∀ (t : Fin 2048) d, x1 (ix3 0 t d) = ((kk t.val d : ℝ) : EReal)) :
    sout0_A_2 (F := Ideal) c i a2 h2 a3 h3 a4 h4 a5 h5 a6 h6 a7 h7 a8 h8 a9 h9 a10 h10 hc0 hc1 hc2 x0 x1 x2 x3 (ix2 0 0) = ((normSq kk (512 * blk i + 512) : ℝ) : EReal) := by
  unfold sout0_A_2
  rw [View.read_writes_eq_canon _ _ _ (scover0_A_2 c i a2 h2 a3 h3 a4 h4 a5 h5 a6 h6 a7 h7 a8 h8 a9 h9 a10 h10 hc0 hc1 hc2 x0 x1 x2 x3)]
  unfold kernelRun0_A
  dsimp only
  sl_unfold_words
  rw [View.canon_cons_unit_zero (S := S1x1) zero2, load_whole3, load_whole3]
  exact point_carry Variants.none c none i a2 h2 a3 h3 a4 h4 a5 h5 a6 h6 a7 h7 a8 h8 a9 h9 a10 h10 (stored_wide a8 x1 hx1 _ _) (stored_tall a9 x1 hx1 _ _ _ _ _) hx0 (zero_word i hb)

end Cert.QK
-- ==== Proof.CaseNext.lean ====
module

public import proofs.«01_k».proof.Proof.CaseFirst

@[expose] public section

/-!
  A later block of a sequence: it finds both scratch arrays, the carried squared norm and the second output as the block
  before it left them, and its outputs are those of the closed form at its places.
-/

set_option maxRecDepth 16384

noncomputable section

namespace Cert.QK

open Idealize.ShloMosaic
open Cert.KernelIdeal Cert.KernelIdeal.Gen

variable (c : Dev nD) (i : grid0.Coords)
variable (a2 : Memref sig .tc .vmem S1x512x256 .f32) (h2 : a2.IsWhole)
  (a3 : Memref sig .tc .vmem S1x2048x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x512x256 .f32) (h6 : a6.IsWhole) (a7 : Memref sig .tc .vmem S1x256x256 .f32) (h7 : a7.IsWhole)
  (a8 : Memref sig .tc .vmem S2048x768 .bf16) (h8 : a8.IsWhole) (a9 : Memref sig .tc .vmem S6144x256 .bf16) (h9 : a9.IsWhole)
  (a10 : Memref sig .tc .smem S1x1 .f32) (h10 : a10.IsWhole)
  (hc0 : ¬cond0_0 i) (hc1 : ¬cond0_1 i) (hc2 : cond0_2 i)
  (x0 : Vec Ideal S1x512x256 .f32) (x1 : Vec Ideal S1x2048x256 .f32) (x2 x3 : Vec Ideal S1x256 .f32)
  (xo5 : Vec Ideal S1x256x256 .f32) (xs0 : Vec Ideal S2048x768 .bf16) (xs1 : Vec Ideal S6144x256 .bf16) (xs2 : Vec Ideal S1x1 .f32)

variable {kk qq : ℕ → Fin 256 → ℝ}

/-- The first scratch array, kept from the block before. -/
theorem kept_wide (hw : WideAll kk xs0) : WideAll kk (a8.view.read (Elt Ideal) (h8.unread xs0)) := by
  rw [h8.read_unread]; exact hw

/-- The second scratch array, kept from the block before. -/
theorem kept_tall (ht : TallAll kk xs1) : TallAll kk (a9.view.read (Elt Ideal) (h9.unread xs1)) := by
  rw [h9.read_unread]; exact ht

/-- The carried number, read as the one entry of its buffer. -/
theorem kept_norm (hr : xs2 (ix2 0 0) = ((normSq kk (512 * blk i) : ℝ) : EReal)) (inb hp) :
    View.readAt (Elt Ideal) a10.view (Rect.unit (s := S1x1) ![0, 0] S1x1.size inb).toLoadRect (h10.unread xs2) (Shape.Idx.first hp)
      = ((normSq kk (512 * blk i) : ℝ) : EReal) := by
  rw [show View.readAt (Elt Ideal) a10.view (Rect.unit (s := S1x1) ![0, 0] S1x1.size inb).toLoadRect (h10.unread xs2) = xs2 from
    load_whole2 a10 h10 xs2 inb]
  rw [← hr]
  refine congrArg xs2 (funext fun k => ?_)
  fin_cases k <;> rfl

/-- The first output after a later block. -/
theorem next_out (hw : WideAll kk xs0) (ht : TallAll kk xs1) (hr : xs2 (ix2 0 0) = ((normSq kk (512 * blk i) : ℝ) : EReal))
    (hx0 : ∀ (l : Fin 512) d, x0 (ix3 0 l d) = ((qq (512 * blk i + l.val) d : ℝ) : EReal)) (l : Fin 512) (d : Fin 256) :
    out0_B_4 (F := Ideal) c i a2 h2 a3 h3 a4 h4 a5 h5 a6 h6 a7 h7 a8 h8 a9 h9 a10 h10 hc0 hc1 hc2 x0 x1 x2 x3 xo5 xs0 xs1 xs2 (ix3 0 l d)
      = outv (applied kk qq (512 * blk i + l.val + 1) (512 * blk i + l.val) d) (normSq kk (512 * blk i + l.val + 1)) (x2 (ix2 0 d)) (x3 (ix2 0 d)) := by
  unfold out0_B_4
  rw [View.read_writes_eq_canon _ _ _ (cover0_B_4 c i a2 h2 a3 h3 a4 h4 a5 h5 a6 h6 a7 h7 a8 h8 a9 h9 a10 h10 hc0 hc1 hc2 x0 x1 x2 x3 xo5 xs0 xs1 xs2)]
  unfold kernelRun0_B
  dsimp only
  sl_unfold_words
  rw [View.canon_unit_zero zero3, load_whole3]
  refine (point_out Variants.none c none i a2 h2 a3 h3 a4 h4 a5 h5 a6 h6 a7 h7 a8 h8 a9 h9 a10 h10 (kept_wide a8 h8 xs0 hw) (kept_tall a9 h9 xs1 ht) hx0 (kept_norm i a10 h10 xs2 hr _ _) _ _ l d).trans ?_
  rw [load_whole2, load_whole2]

/-- The second output after a later block. -/
theorem next_mat (hw : WideAll kk xs0) (ht : TallAll kk xs1) (hp : ∀ a b, xo5 (ix3 0 a b) = ((mat kk (512 * blk i) a b : ℝ) : EReal))
    (a b : Fin 256) :
    out0_B_5 (F := Ideal) c i a2 h2 a3 h3 a4 h4 a5 h5 a6 h6 a7 h7 a8 h8 a9 h9 a10 h10 hc0 hc1 hc2 x0 x1 x2 x3 xo5 xs0 xs1 xs2 (ix3 0 a b) = ((mat kk (512 * blk i + 512) a b : ℝ) : EReal) := by
  unfold out0_B_5
  rw [View.read_writes_eq_canon _ _ _ (cover0_B_5 c i a2 h2 a3 h3 a4 h4 a5 h5 a6 h6 a7 h7 a8 h8 a9 h9 a10 h10 hc0 hc1 hc2 x0 x1 x2 x3 xo5 xs0 xs1 xs2)]
  unfold kernelRun0_B
  dsimp only
  sl_unfold_words
  rw [View.canon_unit_zero zero3, load_whole3]
  exact point_mat_next i a8 a9 (kept_wide a8 h8 xs0 hw) (kept_tall a9 h9 xs1 ht) hp a b

/-- The carried number after a later block. -/
theorem next_carry (hw : WideAll kk xs0) (ht : TallAll kk xs1) (hr : xs2 (ix2 0 0) = ((normSq kk (512 * blk i) : ℝ) : EReal))
    (hx0 : ∀ (l : Fin 512) d, x0 (ix3 0 l d) = ((qq (512 * blk i + l.val) d : ℝ) : EReal)) :
    sout0_B_2 (F := Ideal) c i a2 h2 a3 h3 a4 h4 a5 h5 a6 h6 a7 h7 a8 h8 a9 h9 a10 h10 hc0 hc1 hc2 x0 x1 x2 x3 xo5 xs0 xs1 xs2 (ix2 0 0) = ((normSq kk (512 * blk i + 512) : ℝ) : EReal) := by
  unfold sout0_B_2
  rw [View.read_writes_eq_canon _ _ _ (scover0_B_2 c i a2 h2 a3 h3 a4 h4 a5 h5 a6 h6 a7 h7 a8 h8 a9 h9 a10 h10 hc0 hc1 hc2 x0 x1 x2 x3 xo5 xs0 xs1 xs2)]
  unfold kernelRun0_B
  dsimp only
  sl_unfold_words
  rw [View.canon_unit_zero (S := S1x1) zero2, load_whole3]
  exact point_carry Variants.none c none i a2 h2 a3 h3 a4 h4 a5 h5 a6 h6 a7 h7 a8 h8 a9 h9 a10 h10 (kept_wide a8 h8 xs0 hw) (kept_tall a9 h9 xs1 ht) hx0 (kept_norm i a10 h10 xs2 hr _ _)

/-- A later block leaves the first scratch array as it was. -/
theorem next_wide : sout0_B_0 (F := Ideal) c i a2 h2 a3 h3 a4 h4 a5 h5 a6 h6 a7 h7 a8 h8 a9 h9 a10 h10 hc0 hc1 hc2 x0 x1 x2 x3 xo5 xs0 xs1 xs2 = xs0 := by
  rfl

/-- A later block leaves the second scratch array as it was. -/
theorem next_tall : sout0_B_1 (F := Ideal) c i a2 h2 a3 h3 a4 h4 a5 h5 a6 h6 a7 h7 a8 h8 a9 h9 a10 h10 hc0 hc1 hc2 x0 x1 x2 x3 xo5 xs0 xs1 xs2 = xs1 := by
  rfl

end Cert.QK
-- ==== Proof.Windows.lean ====
module

public import proofs.«01_k».proof.Proof.CaseNext
public import Idealize.ShloMosaic.Lib.Pipeline.Value
public import Idealize.ShloMosaic.Lib.StableHlo.RunRead

@[expose] public section

/-!
  What the kernel's input windows hold at a grid point. Point `t` of the sixteen works on sequence `t / 4`, block
  `t % 4`: the queries of that block, the keys of the whole sequence, and the gain and scale rows.
-/

set_option maxRecDepth 16384

noncomputable section

namespace Cert.QK

open Idealize.ShloMosaic Idealize.ShloMosaic.TcCoe Idealize.SL.Sem
open Cert.KernelIdeal Cert.KernelIdeal.Gen

/-- Row `t` of sequence `b` of an array, as real numbers; zero past the end. -/
def rows (X : FVec Ideal S4x2048x256 .f32) (b : Fin 4) (t : ℕ) (d : Fin 256) : ℝ :=
  if h : t < 2048 then (X (ix3 b ⟨t, h⟩ d)).toReal else 0

/-- Every entry of the array is a real number. -/
def AllReal (X : FVec Ideal S4x2048x256 .f32) : Prop :=
  ∀ (b : Fin 4) (t : Fin 2048) (d : Fin 256), X (ix3 b t d) = ((rows X b t.val d : ℝ) : EReal)

variable (m : (ℓ : Loc nD τ sig) → Buf (Elt Ideal) ℓ) (c : Dev nD)

/-- The queries, the keys, the gain and the scale as launched. -/
abbrev argQ : FVec Ideal S4x2048x256 .f32 := m ((c : Thread nD τ).loc main_arg0)
/-- The keys as launched. -/
abbrev argK : FVec Ideal S4x2048x256 .f32 := m ((c : Thread nD τ).loc main_arg1)
/-- The gain as launched. -/
abbrev argG : FVec Ideal S256 .f32 := m ((c : Thread nD τ).loc main_arg3)
/-- The scale as launched. -/
abbrev argS : FVec Ideal S256 .f32 := m ((c : Thread nD τ).loc main_arg4)

/-- There are sixteen points. -/
theorem lt16 (t : Fin cfg0.N) : t.val < 16 := t.isLt.trans_eq N_0

/-- The sequence and the block a point works on. -/
theorem coords0 : ∀ t : Fin cfg0.N, (grid0.coords t 0).val = t.val / 4 := by decide +kernel
/-- The block a point works on. -/
theorem coords1 : ∀ t : Fin cfg0.N, (grid0.coords t 1).val = t.val % 4 := by decide +kernel

/-- The block number of a point. -/
theorem blk_eq (t : Fin cfg0.N) : blk (grid0.coords t) = t.val % 4 := coords1 t

/-- The block indices of the query window. -/
theorem index_q : ∀ t : Fin cfg0.N, win0_0.index t 0 = t.val / 4 ∧ win0_0.index t 1 = t.val % 4 ∧ win0_0.index t 2 = 0 := by
  decide +kernel
/-- The block indices of the key window. -/
theorem index_k : ∀ t : Fin cfg0.N, win0_1.index t 0 = t.val / 4 ∧ win0_1.index t 1 = 0 ∧ win0_1.index t 2 = 0 := by
  decide +kernel
/-- The block indices of the gain window. -/
theorem index_g : ∀ t : Fin cfg0.N, win0_2.index t 0 = 0 ∧ win0_2.index t 1 = 0 := by
  decide +kernel
/-- The block indices of the scale window. -/
theorem index_s : ∀ t : Fin cfg0.N, win0_3.index t 0 = 0 ∧ win0_3.index t 1 = 0 := by
  decide +kernel

/-- The query window's entries. -/
theorem iblk_q (t : Fin cfg0.N) (b : Fin 4) (hb : b.val = t.val / 4) (l : Fin 512) (p : Fin 2048) (hp : p.val = 512 * (t.val % 4) + l.val)
    (d : Fin 256) : (iblk m c 0 t : Vec Ideal S1x512x256 .f32) (ix3 0 l d) = argQ m c (ix3 b p d) := by
  have hi := index_q t
  unfold iblk
  rw [View.read_apply]
  refine (congrFun (V_main_arg0 m c) _).trans (congrArg (argQ m c) (funext fun a => Fin.ext ?_))
  match a with
  | ⟨0, _⟩ => show win0_0.index t 0 * 1 + 1 * 0 = b.val; rw [hi.1]; omega
  | ⟨1, _⟩ => show win0_0.index t 1 * 512 + 1 * l.val = p.val; rw [hi.2.1]; omega
  | ⟨2, _⟩ => show win0_0.index t 2 * 256 + 1 * d.val = d.val; rw [hi.2.2]; omega

/-- The key window's entries. -/
theorem iblk_k (t : Fin cfg0.N) (b : Fin 4) (hb : b.val = t.val / 4) (p : Fin 2048) (d : Fin 256) :
    (iblk m c 1 t : Vec Ideal S1x2048x256 .f32) (ix3 0 p d) = argK m c (ix3 b p d) := by
  have hi := index_k t
  unfold iblk
  rw [View.read_apply]
  refine (congrFun (V_main_arg1 m c) _).trans (congrArg (argK m c) (funext fun a => Fin.ext ?_))
  match a with
  | ⟨0, _⟩ => show win0_1.index t 0 * 1 + 1 * 0 = b.val; rw [hi.1]; omega
  | ⟨1, _⟩ => show win0_1.index t 1 * 2048 + 1 * p.val = p.val; rw [hi.2.1]; omega
  | ⟨2, _⟩ => show win0_1.index t 2 * 256 + 1 * d.val = d.val; rw [hi.2.2]; omega

/-- The row array made of the gain before the launch. -/
theorem V_gain : V m c main_v0 = shapeCast S1x256 (argG m c) shapeCasts_S256_S1x256 := by
  unfold V
  after_reads_simp
  rfl

/-- The row array made of the scale before the launch. -/
theorem V_scale : V m c main_v1 = shapeCast S1x256 (argS m c) shapeCasts_S256_S1x256 := by
  unfold V
  after_reads_simp
  rfl

/-- A vector as a row, entry by entry. -/
theorem row_of_vec (x : FVec Ideal S256 .f32) (h : S256.ShapeCasts S1x256) (d : Fin 256) :
    shapeCast S1x256 x h (ix2 0 d) = x (ix1 d) := by
  pointwise []

/-- The gain window's entries. -/
theorem iblk_g (t : Fin cfg0.N) (d : Fin 256) : (iblk m c 2 t : Vec Ideal S1x256 .f32) (ix2 0 d) = argG m c (ix1 d) := by
  have hi := index_g t
  unfold iblk
  rw [View.read_apply]
  refine (congrFun (V_gain m c) _).trans ?_
  refine (congrArg (shapeCast S1x256 (argG m c) shapeCasts_S256_S1x256) (funext fun a => Fin.ext ?_)).trans (row_of_vec _ _ d)
  match a with
  | ⟨0, _⟩ => show win0_2.index t 0 * 1 + 1 * 0 = 0; rw [hi.1]
  | ⟨1, _⟩ => show win0_2.index t 1 * 256 + 1 * d.val = d.val; rw [hi.2]; omega

/-- The scale window's entries. -/
theorem iblk_s (t : Fin cfg0.N) (d : Fin 256) : (iblk m c 3 t : Vec Ideal S1x256 .f32) (ix2 0 d) = argS m c (ix1 d) := by
  have hi := index_s t
  unfold iblk
  rw [View.read_apply]
  refine (congrFun (V_scale m c) _).trans ?_
  refine (congrArg (shapeCast S1x256 (argS m c) shapeCasts_S256_S1x256) (funext fun a => Fin.ext ?_)).trans (row_of_vec _ _ d)
  match a with
  | ⟨0, _⟩ => show win0_3.index t 0 * 1 + 1 * 0 = 0; rw [hi.1]
  | ⟨1, _⟩ => show win0_3.index t 1 * 256 + 1 * d.val = d.val; rw [hi.2]; omega

end Cert.QK
-- ==== Proof.Precondition.lean ====
module

public import proofs.«01_k».proof.Defs
public import proofs.«01_k».proof.Proof.Windows

@[expose] public section

/-!
  What the precondition says: every query and every key is a real number, and the first state matrices are zero.
-/

noncomputable section

namespace Cert.QK

open Idealize.ShloMosaic Idealize.SL.Sem

/-- An extended real whose absolute value is below the infinity word is a real number. -/
theorem real_of_below {x : EReal} (h : Ideal.cmp .olt (max x (-x)) (Ideal.ofBits FTy.f32 0x7F800000#32) = 1#1) : x = ((x.toReal : ℝ) : EReal) := by
  have htop : Ideal.ofBits .f32 0x7F800000#32 = ⊤ := by simp [Ideal.ofBits, Ideal.ieee]
  rw [htop] at h
  induction x with
  | bot => simp [Ideal.cmp] at h
  | coe r => rfl
  | top => simp [Ideal.cmp] at h

/-- An extended real equal to the zero word is zero. -/
theorem zero_of_eq {x : EReal} (h : Ideal.cmp .oeq x (Ideal.ofBits FTy.f32 0x00000000#32) = 1#1) : x = 0 := by
  have hz : Ideal.ofBits .f32 0x00000000#32 = 0 := by simp [Ideal.ofBits, Ideal.ieee]
  rw [hz] at h
  by_contra hx
  simp [Ideal.cmp, hx] at h

/-- An array below the infinity word everywhere is real everywhere. -/
theorem allReal_of (X : FVec Ideal Cert.KernelIdeal.S4x2048x256 .f32)
    (h : ∀ i, Ideal.cmp .olt (max (X i) (-(X i))) (Ideal.ofBits FTy.f32 0x7F800000#32) = 1#1) : AllReal X := by
  intro b t d
  rw [rows, dif_pos t.isLt]
  exact real_of_below (h _)

/-- The first state matrices as launched. -/
abbrev argP (m : (ℓ : Loc Cert.KernelIdeal.nD Cert.KernelIdeal.τ Cert.KernelIdeal.sig) → Buf (Elt Ideal) ℓ) (c : Dev Cert.KernelIdeal.nD) :
    FVec Ideal Cert.KernelIdeal.S4x256x256 .f32 :=
  m ((c.tc : Thread Cert.KernelIdeal.nD Cert.KernelIdeal.τ).loc Cert.KernelIdeal.main_arg2)

variable [Cert.Pre_fresh_and_finite.Facts]
variable {m : (ℓ : Loc Cert.KernelIdeal.nD Cert.KernelIdeal.τ Cert.KernelIdeal.sig) → Buf (Elt Ideal) ℓ}

/-- Under the precondition the queries are real. -/
theorem pre_queries (h : Cert.Pre_KernelIdeal_fresh_and_finite m) (c : Dev Cert.KernelIdeal.nD) : AllReal (argQ m c) :=
  allReal_of _ fun i => congrFun (h c).1 i

/-- Under the precondition the keys are real. -/
theorem pre_keys (h : Cert.Pre_KernelIdeal_fresh_and_finite m) (c : Dev Cert.KernelIdeal.nD) : AllReal (argK m c) :=
  allReal_of _ fun i => congrFun (h c).2.1 i

/-- Under the precondition the first state matrices are zero. -/
theorem pre_state (h : Cert.Pre_KernelIdeal_fresh_and_finite m) (c : Dev Cert.KernelIdeal.nD) (i : Cert.KernelIdeal.S4x256x256.Idx) :
    argP m c i = 0 :=
  zero_of_eq (congrFun (h c).2.2 i)

end Cert.QK
-- ==== Proof.Sweep.lean ====
module

public import proofs.«01_k».proof.Proof.Windows

@[expose] public section

/-!
  What the kernel leaves after each grid point, by recursion on the point, and so what its two result arrays hold at the
  end: the closed form, entry by entry.
-/

set_option maxRecDepth 16384

noncomputable section

namespace Cert.QK

open Idealize.ShloMosaic Idealize.ShloMosaic.TcCoe Idealize.SL.Sem
open Cert.KernelIdeal Cert.KernelIdeal.Gen Cert.KernelIdeal.Value

/-- What the outputs and the scratch arrays hold after block `r` of a sequence with keys `kk`, queries `qq`, gain `g` and
    scale `s`: the block's outputs, the state matrix and its squared norm after the block, and the keys laid out. -/
structure AfterBlock (kk qq : ℕ → Fin 256 → ℝ) (g s : FVec Ideal S256 .f32) (r : ℕ)
    (o : Vec Ideal S1x512x256 .f32 × Vec Ideal S1x256x256 .f32 × Vec Ideal S2048x768 .bf16 × Vec Ideal S6144x256 .bf16 × Vec Ideal S1x1 .f32) : Prop where
  out : ∀ (l : Fin 512) (d : Fin 256), o.1 (ix3 0 l d)
    = outv (applied kk qq (512 * r + l.val + 1) (512 * r + l.val) d) (normSq kk (512 * r + l.val + 1)) (g (ix1 d)) (s (ix1 d))
  state : ∀ a b : Fin 256, o.2.1 (ix3 0 a b) = ((mat kk (512 * r + 512) a b : ℝ) : EReal)
  wide : WideAll kk o.2.2.1
  tall : TallAll kk o.2.2.2.1
  norm : o.2.2.2.2 (ix2 0 0) = ((normSq kk (512 * r + 512) : ℝ) : EReal)

variable (m : (ℓ : Loc nD τ sig) → Buf (Elt Ideal) ℓ) (c : Dev nD)

/-- A point's query window, in the reals. -/
theorem queries_at (hQ : AllReal (argQ m c)) (t : Fin cfg0.N) (b : Fin 4) (hb : b.val = t.val / 4) (l : Fin 512) (d : Fin 256) :
    (iblk m c 0 t : Vec Ideal S1x512x256 .f32) (ix3 0 l d) = ((rows (argQ m c) b (512 * blk (grid0.coords t) + l.val) d : ℝ) : EReal) := by
  have hl := l.isLt
  have hm : t.val % 4 < 4 := Nat.mod_lt _ (by decide)
  rw [blk_eq]
  exact (iblk_q m c t b hb l ⟨512 * (t.val % 4) + l.val, by omega⟩ rfl d).trans (hQ b _ d)

/-- A point's key window, in the reals. -/
theorem keys_at (hK : AllReal (argK m c)) (t : Fin cfg0.N) (b : Fin 4) (hb : b.val = t.val / 4) (p : Fin 2048) (d : Fin 256) :
    (iblk m c 1 t : Vec Ideal S1x2048x256 .f32) (ix3 0 p d) = ((rows (argK m c) b p.val d : ℝ) : EReal) :=
  (iblk_k m c t b hb p d).trans (hK b p d)

/-- What the first block of a sequence leaves. -/
theorem after_first (hQ : AllReal (argQ m c)) (hK : AllReal (argK m c)) (t : Fin cfg0.N) (b : Fin 4) (hb : b.val = t.val / 4)
    (ht : t.val % 4 = 0) :
    AfterBlock (rows (argK m c) b) (rows (argQ m c) b) (argG m c) (argS m c) (t.val % 4) (outsAt0 m c t.val t.isLt) := by
  have e := blk_eq t
  have hx0 := queries_at m c hQ t b hb
  have hx1 := keys_at m c hK t b hb
  suffices H : AfterBlock (rows (argK m c) b) (rows (argQ m c) b) (argG m c) (argS m c) (blk (grid0.coords t)) (outsAt0 m c t.val t.isLt) by
    rwa [e] at H
  have h2 : ¬1 ≤ t.val % 4 := by omega
  rw [outsAt0_A m c t ht ht h2]
  refine ⟨fun l d => ?_, fun a b => ?_, ?_, ?_, ?_⟩
  · dsimp only
    refine (first_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr ht) ((hcond0_1 t).mpr ht) (fun h => h2 ((hcond0_2 t).mp h)) (iblk m c 0 t) (iblk m c 1 t) (iblk m c 2 t) (iblk m c 3 t) (e.trans ht) hx0 hx1 l d).trans ?_
    rw [iblk_g, iblk_s]
  · dsimp only
    exact first_mat c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr ht) ((hcond0_1 t).mpr ht) (fun h => h2 ((hcond0_2 t).mp h)) (iblk m c 0 t) (iblk m c 1 t) (iblk m c 2 t) (iblk m c 3 t) (e.trans ht) hx1 a b
  · dsimp only
    exact first_wide c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr ht) ((hcond0_1 t).mpr ht) (fun h => h2 ((hcond0_2 t).mp h)) (iblk m c 0 t) (iblk m c 1 t) (iblk m c 2 t) (iblk m c 3 t) hx1
  · dsimp only
    exact first_tall c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr ht) ((hcond0_1 t).mpr ht) (fun h => h2 ((hcond0_2 t).mp h)) (iblk m c 0 t) (iblk m c 1 t) (iblk m c 2 t) (iblk m c 3 t) hx1
  · dsimp only
    exact first_carry c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr ht) ((hcond0_1 t).mpr ht) (fun h => h2 ((hcond0_2 t).mp h)) (iblk m c 0 t) (iblk m c 1 t) (iblk m c 2 t) (iblk m c 3 t) (e.trans ht) hx0 hx1

/-- What a later block leaves, from what the block before it left. -/
theorem after_next (hQ : AllReal (argQ m c)) (t : Fin cfg0.N) (b : Fin 4) (hb : b.val = t.val / 4)
    (ht : 1 ≤ t.val % 4)
    (ih : AfterBlock (rows (argK m c) b) (rows (argQ m c) b) (argG m c) (argS m c) ((t.val - 1) % 4)
      (outsAt0 m c (t.val - 1) (Nat.lt_of_le_of_lt (Nat.sub_le _ _) t.isLt))) :
    AfterBlock (rows (argK m c) b) (rows (argQ m c) b) (argG m c) (argS m c) (t.val % 4) (outsAt0 m c t.val t.isLt) := by
  have e := blk_eq t
  have hp : 512 * ((t.val - 1) % 4) + 512 = 512 * blk (grid0.coords t) := by rw [e]; omega
  have hx0 := queries_at m c hQ t b hb
  obtain ⟨-, hst, hw, hta, hn⟩ := ih
  rw [hp] at hst hn
  suffices H : AfterBlock (rows (argK m c) b) (rows (argQ m c) b) (argG m c) (argS m c) (blk (grid0.coords t)) (outsAt0 m c t.val t.isLt) by
    rwa [e] at H
  have h0 : ¬t.val % 4 = 0 := by omega
  rw [outsAt0_B m c t h0 h0 ht]
  refine ⟨fun l d => ?_, fun a b => ?_, ?_, ?_, ?_⟩
  · dsimp only
    refine (next_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h0 ((hcond0_1 t).mp h)) ((hcond0_2 t).mpr ht) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hw hta hn hx0 l d).trans ?_
    rw [iblk_g, iblk_s]
  · dsimp only
    exact next_mat c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h0 ((hcond0_1 t).mp h)) ((hcond0_2 t).mpr ht) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hw hta hst a b
  · exact hw
  · exact hta
  · dsimp only
    exact next_carry c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h0 ((hcond0_1 t).mp h)) ((hcond0_2 t).mpr ht) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hw hta hn hx0

/-- What every point leaves. -/
theorem after_point (hQ : AllReal (argQ m c)) (hK : AllReal (argK m c)) (b : Fin 4) : ∀ (n : ℕ) (hn : n < cfg0.N), b.val = n / 4 →
    AfterBlock (rows (argK m c) b) (rows (argQ m c) b) (argG m c) (argS m c) (n % 4) (outsAt0 m c n hn) := by
  intro n
  induction n with
  | zero => intro hn hb; exact after_first m c hQ hK ⟨0, hn⟩ b hb rfl
  | succ n ih =>
    intro hn hb
    by_cases h : (n + 1) % 4 = 0
    · exact after_first m c hQ hK ⟨n + 1, hn⟩ b hb h
    · exact after_next m c hQ ⟨n + 1, hn⟩ b hb (by show 1 ≤ (n + 1) % 4; omega) (ih (Nat.lt_of_succ_lt hn) (by omega))

/-- The first result array at the end, entry by entry. -/
theorem result_out (hQ : AllReal (argQ m c)) (hK : AllReal (argK m c)) (b : Fin 4) (t : Fin 2048) (d : Fin 256) :
    (G4 m c : FVec Ideal S4x2048x256 .f32) (ix3 b t d)
      = outv (applied (rows (argK m c) b) (rows (argQ m c) b) (t.val + 1) t.val d) (normSq (rows (argK m c) b) (t.val + 1))
          (argG m c (ix1 d)) (argS m c (ix1 d)) := by
  have hb := b.isLt
  have ht := t.isLt
  have hd := d.isLt
  have hpt : pt4Of (ix3 b t d) = 4 * b.val + t.val / 512 := by
    show 4 * (b.val / 1 - 0) + 1 * (t.val / 512 - 0) + 1 * (d.val / 256 - 0) = _
    omega
  have hN := N_0
  have hlt : pt4Of (ix3 b t d) < cfg0.N := by rw [hpt]; show _ < grid0.N; omega
  have hl : loc4Of (ix3 b t d) = ix3 0 ⟨t.val % 512, Nat.mod_lt _ (by decide)⟩ d := by
    funext a; apply Fin.ext
    match a with
    | ⟨0, _⟩ => show b.val % 1 = 0; omega
    | ⟨1, _⟩ => rfl
    | ⟨2, _⟩ => show d.val % 256 = d.val; omega
  unfold G4
  rw [dif_pos hlt, ← outsAt0_sweep m c _ hlt, hl]
  have hr : 512 * (pt4Of (ix3 b t d) % 4) + t.val % 512 = t.val := by rw [hpt]; omega
  refine ((after_point m c hQ hK b _ hlt (by rw [hpt]; omega)).out _ d).trans ?_
  rw [show 512 * (pt4Of (ix3 b t d) % 4) + (⟨t.val % 512, Nat.mod_lt _ (by decide)⟩ : Fin 512).val = t.val from hr]

/-- The second result array at the end, entry by entry. -/
theorem result_state (hQ : AllReal (argQ m c)) (hK : AllReal (argK m c)) (b : Fin 4) (x y : Fin 256) :
    (G5 m c : FVec Ideal S4x256x256 .f32) (ix3 b x y) = ((mat (rows (argK m c) b) 2048 x y : ℝ) : EReal) := by
  have hb := b.isLt
  have hx := x.isLt
  have hy := y.isLt
  have hpt : pt5Of (ix3 b x y) = 4 * b.val + 3 := by
    show 4 * (1 * (b.val / 1 - 0) + 1 * (x.val / 256 - 0) + 1 * (y.val / 256 - 0)) + 3 = _
    omega
  have hN := N_0
  have hlt : pt5Of (ix3 b x y) < cfg0.N := by rw [hpt]; show _ < grid0.N; omega
  have hl : loc5Of (ix3 b x y) = ix3 0 x y := by
    funext a; apply Fin.ext
    match a with
    | ⟨0, _⟩ => show b.val % 1 = 0; omega
    | ⟨1, _⟩ => show x.val % 256 = x.val; omega
    | ⟨2, _⟩ => show y.val % 256 = y.val; omega
  unfold G5
  rw [dif_pos hlt, ← outsAt0_sweep m c _ hlt, hl]
  refine ((after_point m c hQ hK b _ hlt (by rw [hpt]; omega)).state x y).trans ?_
  rw [show 512 * (pt5Of (ix3 b x y) % 4) + 512 = 2048 by rw [hpt]; omega]

end Cert.QK
-- ==== Proof.RefTrip.lean ====
module

public import proofs.«01_k».proof.Proof.BlockOps
public import proofs.«01_k».proof.Proof.Gram
public import proofs.«01_k».proof.Proof.Gen.ReferenceIdeal.Run
public import Idealize.ShloMosaic.Lib.Pointwise
public import Idealize.ShloMosaic.Lib.DynamicIndex
public import Idealize.ShloMosaic.Lib.Pipeline.Value

@[expose] public section

/-!
  One trip of the reference's loop, entry by entry: the key and query rows it reads, the state matrix it makes, the
  output row it writes.
-/

set_option maxRecDepth 16384

noncomputable section

namespace Cert.QK

open Idealize.ShloMosaic Idealize.ShloMosaic.TcCoe Idealize.SL.Sem
open Cert.ReferenceIdeal Cert.ReferenceIdeal.Gen Cert.ReferenceIdeal.Value

/-- What the loop carries at a trip: the queries and keys by position, the gain, the scale, the counter, the state
    matrices and the outputs by position. -/
abbrev refQ (V : Valuation τ sig (Elt Ideal)) : FVec Ideal S2048x4x256 .f32 := V (Proc.devRef .tc main_v3_0)
/-- The keys by position. -/
abbrev refK (V : Valuation τ sig (Elt Ideal)) : FVec Ideal S2048x4x256 .f32 := V (Proc.devRef .tc main_v3_1)
/-- The gain. -/
abbrev refG (V : Valuation τ sig (Elt Ideal)) : FVec Ideal S256 .f32 := V (Proc.devRef .tc main_v3_2)
/-- The scale. -/
abbrev refS (V : Valuation τ sig (Elt Ideal)) : FVec Ideal S256 .f32 := V (Proc.devRef .tc main_v3_3)
/-- The counter. -/
abbrev refN (V : Valuation τ sig (Elt Ideal)) : IVec S_ 32 := V (Proc.devRef .tc main_v3_4)
/-- The state matrices. -/
abbrev refP (V : Valuation τ sig (Elt Ideal)) : FVec Ideal S4x256x256 .f32 := V (Proc.devRef .tc main_v3_5)
/-- The outputs by position. -/
abbrev refY (V : Valuation τ sig (Elt Ideal)) : FVec Ideal S2048x4x256 .f32 := V (Proc.devRef .tc main_v3_6)

/-- The start a trip computes from its counter: position `n`, and zero on the two other axes. -/
theorem start_eq (C : IVec S_ 32) (n : ℕ) (hn : n < 2048) (hC : C = fun _ => BitVec.ofNat 32 n) (a : Fin 3) :
    ((![C, constantI S_ 32 0#32, constantI S_ 32 0#32] : Fin 3 → IVec S_ 32) a (Shape.Idx.first h_S_)).toInt = ((![n, 0, 0] : Fin 3 → ℕ) a : ℤ) := by
  subst hC
  match a with
  | ⟨0, _⟩ => exact toInt_ofNat_of_lt (by omega)
  | ⟨1, _⟩ => rfl
  | ⟨2, _⟩ => rfl

/-- The row read at position `n`. -/
theorem row_read (X : FVec Ideal S2048x4x256 .f32) (C : IVec S_ 32) (n : ℕ) (hn : n < 2048) (hC : C = fun _ => BitVec.ofNat 32 n)
    (h1 h2) (b : Fin 4) (d : Fin 256) :
    shapeCast S4x256 (Host.dynamicSlice S1x4x256 X
      (fun k => ((![C, constantI S_ 32 0#32, constantI S_ 32 0#32] : Fin 3 → IVec S_ 32) k (Shape.Idx.first h_S_)).toInt) h1) h2 (ix2 b d)
      = X (ix3 ⟨n, hn⟩ b d) := by
  rw [Host.dynamicSlice_eq_extractStridedSlice S1x4x256 X _ ![n, 0, 0] h1
    ⟨rfl, fun a => by match a with
      | ⟨0, _⟩ => show n + 1 ≤ 2048; omega
      | ⟨1, _⟩ => show 0 + 4 ≤ 4; omega
      | ⟨2, _⟩ => show 0 + 256 ≤ 256; omega⟩ (start_eq C n hn hC)]
  pointwise []

/-- The state matrix after a trip. -/
theorem trip_state (V : Valuation τ sig (Elt Ideal)) (n : ℕ) (hn : n < 2048) (hC : refN V = fun _ => BitVec.ofNat 32 n)
    (b : Fin 4) (x y : Fin 256) :
    (res_main_while0b_v12 V : FVec Ideal S4x256x256 .f32) (ix3 b x y)
      = refP V (ix3 b x y) + refK V (ix3 ⟨n, hn⟩ b x) * refK V (ix3 ⟨n, hn⟩ b y) := by
  have hk : ∀ d, (res_main_while0b_v6 V : FVec Ideal S4x256 .f32) (ix2 b d) = refK V (ix3 ⟨n, hn⟩ b d) := fun d => row_read (refK V) (refN V) n hn hC _ _ b d
  rw [← hk, ← hk]
  unfold res_main_while0b_v12
  generalize res_main_while0b_v6 V = R
  pointwise []

/-- The row a trip writes, of the state matrices `P`, the gain, the query rows and the scale. -/
abbrev outRow (P : FVec Ideal S4x256x256 .f32) (G S : FVec Ideal S256 .f32) (Q : FVec Ideal S4x256 .f32) : FVec Ideal S1x4x256 .f32 :=
  broadcastInDim S1x4x256 ![1, 2] bcast_S4x256_S1x4x256_1_2 (mulf (Host.tanh (mulf (broadcastInDim S4x256 ![0, 1] bcast_S1x256_S4x256_0_1 (broadcastInDim S1x256 ![1] bcast_S256_S1x256_1 G)) (Host.dotGeneral dot_S4x256x256_S4x256_S4x256_2_1_1_n_0_0 none (Host.divf P (broadcastInDim S4x256x256 ![0, 1, 2] bcast_S4x1x1_S4x256x256_0_1_2 (addf (Host.sqrt (broadcastInDim S4x1x1 ![0] bcast_S4_S4x1x1_0 (Host.reduceAdd (mulf P P) (constant S_ .f32 0x00000000#32) reducesTo_S4x256x256_S4_d1_2 h_S_))) (broadcastInDim S4x1x1 ![] bcast_S_S4x1x1 (constant S_ .f32 0x33D6BF95#32))))) Q))) (broadcastInDim S4x256 ![0, 1] bcast_S1x256_S4x256_0_1 (broadcastInDim S1x256 ![1] bcast_S256_S1x256_1 S)))

/-- That row over the extended reals. -/
theorem outRow_apply (P : FVec Ideal S4x256x256 .f32) (G S : FVec Ideal S256 .f32) (Q : FVec Ideal S4x256 .f32) (b : Fin 4) (d : Fin 256) :
    outRow P G S Q (ix3 0 b d) = Ideal.tanh (G (ix1 d) * ∑ x : Fin 256, Ideal.div (P (ix3 b d x))
        (Ideal.sqrt (∑ y : Fin 256, ∑ z : Fin 256, P (ix3 b y z) * P (ix3 b y z)) + Ideal.ofBits FTy.f32 869711765#32) * Q (ix2 b x)) * S (ix1 d) := by
  unfold outRow
  pointwise []

/-- That row where the state matrix and the query row are real: the closed form. -/
theorem outRow_real (P : FVec Ideal S4x256x256 .f32) (G S : FVec Ideal S256 .f32) (Q : FVec Ideal S4x256 .f32) (b : Fin 4)
    {kk qq : ℕ → Fin 256 → ℝ} (n t : ℕ) (hP : ∀ x y, P (ix3 b x y) = ((mat kk n x y : ℝ) : EReal))
    (hQ : ∀ x, Q (ix2 b x) = ((qq t x : ℝ) : EReal)) (d : Fin 256) :
    outRow P G S Q (ix3 0 b d) = outv (applied kk qq n t d) (normSq kk n) (G (ix1 d)) (S (ix1 d)) := by
  have hs : ∑ y : Fin 256, ∑ z : Fin 256, P (ix3 b y z) * P (ix3 b y z) = ((normSq kk n : ℝ) : EReal) := by
    rw [← sum_mat_sq]
    simp only [hP, ← EReal.coe_mul, coe_sum]
  rw [outRow_apply, hs, sqrt_coe (normSq_nonneg kk n), eps_eq, ← EReal.coe_add]
  unfold outv
  rw [← mat_div_apply]
  simp only [hP, hQ, Ideal.div_coe (norm_pos (normSq kk n)).ne', ← EReal.coe_mul, coe_sum, mul_one_div]

/-- The outputs after a trip: row `n` is the trip's, every other row is as it was. -/
theorem trip_outputs (V : Valuation τ sig (Elt Ideal)) (n : ℕ) (hn : n < 2048) (hC : refN V = fun _ => BitVec.ofNat 32 n)
    (t : Fin 2048) (b : Fin 4) (d : Fin 256) :
    refY (STEP V) (ix3 t b d) = if t.val = n then
      outRow (res_main_while0b_v12 V) (refG V) (refS V)
        (shapeCast S4x256 (Host.dynamicSlice S1x4x256 (refQ V) (fun k => ((![refN V, constantI S_ 32 0#32, constantI S_ 32 0#32] : Fin 3 → IVec S_ 32) k (Shape.Idx.first h_S_)).toInt) sliceFits_S2048x4x256_S1x4x256) shapeCasts_S1x4x256_S4x256) (ix3 0 b d)
      else refY V (ix3 t b d) := by
  refine (congrFun (STEP_main_v3_6 V) _).trans ?_
  unfold step_main_v3_6
  show Host.dynamicUpdateSlice (refY V) (outRow (res_main_while0b_v12 V) (refG V) (refS V) _) _ _ (ix3 t b d) = _
  generalize outRow _ _ _ _ = R
  rw [Host.dynamicUpdateSlice_eq_updateSlice (refY V) R _ _ ![n, 0, 0] (fun a => by
    rw [start_eq (refN V) n hn hC a]
    match a with
    | ⟨0, _⟩ => show (min (max ((n : ℕ) : ℤ) 0) ((2048 - 1 : ℕ) : ℤ)).toNat = n; omega
    | ⟨1, _⟩ => rfl
    | ⟨2, _⟩ => rfl) ⟨rfl, fun a => by match a with
      | ⟨0, _⟩ => show n + 1 ≤ 2048; omega
      | ⟨1, _⟩ => show 0 + 4 ≤ 4; omega
      | ⟨2, _⟩ => show 0 + 256 ≤ 256; omega⟩]
  pointwise []
  by_cases h : t.val = n
  · rw [dif_pos ⟨h.ge, by omega⟩, if_pos h]
    exact congrArg R (congrArg (ix3 · b d) (Fin.ext (by show t.val - n = 0; omega)))
  · rw [dif_neg (by omega), if_neg h]

/-- The counter after a trip. -/
theorem trip_counter (V : Valuation τ sig (Elt Ideal)) (n : ℕ) (hC : refN V = fun _ => BitVec.ofNat 32 n) :
    refN (STEP V) = fun _ => BitVec.ofNat 32 (n + 1) := by
  refine (STEP_main_v3_4 V).trans ?_
  unfold step_main_v3_4
  show addi (refN V) (constantI S_ 32 1#32) = _
  rw [hC]
  funext i
  show BitVec.ofNat 32 n + 1#32 = _
  rw [BitVec.ofNat_add]

end Cert.QK
-- ==== Proof.RefLoop.lean ====
module

public import proofs.«01_k».proof.Proof.RefTrip

@[expose] public section

/-!
  What the reference's loop holds after `n` trips, and so what its two results are: the closed form, entry by entry.
-/

set_option maxRecDepth 16384

noncomputable section

namespace Cert.QK.Ref

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (c : Dev nD)

/-- The reference's arguments as launched: the queries, the keys, the first state matrices, the gain, the scale. -/
abbrev argQ : FVec Ideal S4x2048x256 .f32 := m ((c.tc : Thread nD τ).loc main_arg0)
/-- The keys as launched. -/
abbrev argK : FVec Ideal S4x2048x256 .f32 := m ((c.tc : Thread nD τ).loc main_arg1)
/-- The first state matrices as launched. -/
abbrev argP : FVec Ideal S4x256x256 .f32 := m ((c.tc : Thread nD τ).loc main_arg2)
/-- The gain as launched. -/
abbrev argG : FVec Ideal S256 .f32 := m ((c.tc : Thread nD τ).loc main_arg3)
/-- The scale as launched. -/
abbrev argS : FVec Ideal S256 .f32 := m ((c.tc : Thread nD τ).loc main_arg4)

/-- What the loop finds in the buffers it carries. -/
theorem entry_q : refQ (entryContents preI m c) = transpose S2048x4x256 [1, 0, 2] (argQ m c) transposes_S4x2048x256_S2048x4x256_1_0_2 := by
  unfold refQ
  simp only [entryContents, afterL_cons, afterL_nil]
  after_reads_simp
  rfl
/-- The loop starts with the keys by position. -/
theorem entry_k : refK (entryContents preI m c) = transpose S2048x4x256 [1, 0, 2] (argK m c) transposes_S4x2048x256_S2048x4x256_1_0_2 := by
  unfold refK
  simp only [entryContents, afterL_cons, afterL_nil]
  after_reads_simp
  rfl
/-- The loop starts with the gain as launched. -/
theorem entry_g : refG (entryContents preI m c) = argG m c := by
  unfold refG
  simp only [entryContents, afterL_cons, afterL_nil]
  after_reads_simp
  rfl
/-- The loop starts with the scale as launched. -/
theorem entry_s : refS (entryContents preI m c) = argS m c := by
  unfold refS
  simp only [entryContents, afterL_cons, afterL_nil]
  after_reads_simp
  rfl
/-- The loop starts with the first state matrices as launched. -/
theorem entry_p : refP (entryContents preI m c) = argP m c := by
  unfold refP
  simp only [entryContents, afterL_cons, afterL_nil]
  after_reads_simp
  rfl

/-- The transposition that brings the position first, and the one that brings it second. -/
theorem pos_first (X : FVec Ideal S4x2048x256 .f32) (h) (b : Fin 4) (t : Fin 2048) (d : Fin 256) :
    transpose S2048x4x256 [1, 0, 2] X h (ix3 t b d) = X (ix3 b t d) := by
  pointwise []
/-- Putting the position on the second axis moves an element from `(t, b, d)` to `(b, t, d)`. -/
theorem pos_second (X : FVec Ideal S2048x4x256 .f32) (h) (b : Fin 4) (t : Fin 2048) (d : Fin 256) :
    transpose S4x2048x256 [1, 0, 2] X h (ix3 b t d) = X (ix3 t b d) := by
  pointwise []

/-- What the loop carries after `n` trips for sequence `b`, with keys `kk` and queries `qq`. -/
structure AfterTrips (kk qq : ℕ → Fin 256 → ℝ) (b : Fin 4) (n : ℕ) (V : Valuation τ sig (Elt Ideal)) : Prop where
  queries : ∀ (t : Fin 2048) (d : Fin 256), refQ V (ix3 t b d) = ((qq t.val d : ℝ) : EReal)
  keys : ∀ (t : Fin 2048) (d : Fin 256), refK V (ix3 t b d) = ((kk t.val d : ℝ) : EReal)
  gain : refG V = argG m c
  scale : refS V = argS m c
  counter : refN V = fun _ => BitVec.ofNat 32 n
  state : ∀ x y : Fin 256, refP V (ix3 b x y) = ((mat kk n x y : ℝ) : EReal)
  outs : ∀ (t : Fin 2048) (d : Fin 256), t.val < n → refY V (ix3 t b d)
    = outv (applied kk qq (t.val + 1) t.val d) (normSq kk (t.val + 1)) (argG m c (ix1 d)) (argS m c (ix1 d))

variable {kk qq : ℕ → Fin 256 → ℝ} {b : Fin 4}

/-- One more key makes the matrix of one more key. -/
theorem mat_succ (n : ℕ) (x y : Fin 256) : mat kk n x y + kk n x * kk n y = mat kk (n + 1) x y := by
  rw [mat, mat, Finset.sum_range_succ]

/-- One trip. -/
theorem AfterTrips.step {n : ℕ} (hn : n < 2048) {V : Valuation τ sig (Elt Ideal)} (h : AfterTrips m c kk qq b n V) :
    AfterTrips m c kk qq b (n + 1) (STEP V) := by
  have hP : ∀ x y, (res_main_while0b_v12 V : FVec Ideal S4x256x256 .f32) (ix3 b x y) = ((mat kk (n + 1) x y : ℝ) : EReal) := fun x y => by
    rw [trip_state V n hn h.counter, h.state, h.keys, h.keys, ← EReal.coe_mul, ← EReal.coe_add, mat_succ]
  refine ⟨fun t d => ?_, fun t d => ?_, ?_, ?_, trip_counter V n h.counter, fun x y => ?_, fun t d ht => ?_⟩
  · exact (congrFun (STEP_main_v3_0 V) _).trans (h.queries t d)
  · exact (congrFun (STEP_main_v3_1 V) _).trans (h.keys t d)
  · exact (STEP_main_v3_2 V).trans h.gain
  · exact (STEP_main_v3_3 V).trans h.scale
  · exact (congrFun (STEP_main_v3_5 V) _).trans (hP x y)
  · rw [trip_outputs V n hn h.counter]
    by_cases e : t.val = n
    · rw [if_pos e, outRow_real _ _ _ _ b (n + 1) n hP (fun x => (row_read (refQ V) (refN V) n hn h.counter _ _ b x).trans (h.queries ⟨n, hn⟩ x)),
        h.gain, h.scale, e]
    · rw [if_neg e]
      exact h.outs t d (by omega)

/-- Before the first trip. -/
theorem after_none (hQ : ∀ (t : Fin 2048) (d : Fin 256), argQ m c (ix3 b t d) = ((qq t.val d : ℝ) : EReal))
    (hK : ∀ (t : Fin 2048) (d : Fin 256), argK m c (ix3 b t d) = ((kk t.val d : ℝ) : EReal))
    (hP : ∀ x y : Fin 256, argP m c (ix3 b x y) = 0) : AfterTrips m c kk qq b 0 (entryContents preI m c) := by
  refine ⟨fun t d => ?_, fun t d => ?_, entry_g m c, entry_s m c, ctr_entry m c, fun x y => ?_, fun t d ht => absurd ht (Nat.not_lt_zero _)⟩
  · rw [entry_q, pos_first]; exact hQ t d
  · rw [entry_k, pos_first]; exact hK t d
  · rw [entry_p, hP, mat, Finset.sum_range_zero, EReal.coe_zero]

/-- After any number of trips. -/
theorem after_trips (hQ : ∀ (t : Fin 2048) (d : Fin 256), argQ m c (ix3 b t d) = ((qq t.val d : ℝ) : EReal))
    (hK : ∀ (t : Fin 2048) (d : Fin 256), argK m c (ix3 b t d) = ((kk t.val d : ℝ) : EReal))
    (hP : ∀ x y : Fin 256, argP m c (ix3 b x y) = 0) :
    ∀ n, n ≤ 2048 → AfterTrips m c kk qq b n (STEP^[n] (entryContents preI m c))
  | 0, _ => after_none m c hQ hK hP
  | n + 1, hn => by
    rw [Function.iterate_succ_apply']
    exact (after_trips hQ hK hP n (by omega)).step m c (by omega)

/-- The reference's outputs, entry by entry. -/
theorem result_out (hQ : ∀ (t : Fin 2048) (d : Fin 256), argQ m c (ix3 b t d) = ((qq t.val d : ℝ) : EReal))
    (hK : ∀ (t : Fin 2048) (d : Fin 256), argK m c (ix3 b t d) = ((kk t.val d : ℝ) : EReal))
    (hP : ∀ x y : Fin 256, argP m c (ix3 b x y) = 0) (t : Fin 2048) (d : Fin 256) :
    (out_main_v4 (STEP^[2048] (entryContents preI m c)) : FVec Ideal S4x2048x256 .f32) (ix3 b t d)
      = outv (applied kk qq (t.val + 1) t.val d) (normSq kk (t.val + 1)) (argG m c (ix1 d)) (argS m c (ix1 d)) := by
  have h := after_trips m c hQ hK hP 2048 le_rfl
  generalize STEP^[2048] (entryContents preI m c) = V at h ⊢
  unfold out_main_v4
  exact (pos_second (refY V) _ b t d).trans (h.outs t d t.isLt)

/-- The reference's last state matrices, entry by entry. -/
theorem result_state (hQ : ∀ (t : Fin 2048) (d : Fin 256), argQ m c (ix3 b t d) = ((qq t.val d : ℝ) : EReal))
    (hK : ∀ (t : Fin 2048) (d : Fin 256), argK m c (ix3 b t d) = ((kk t.val d : ℝ) : EReal))
    (hP : ∀ x y : Fin 256, argP m c (ix3 b x y) = 0) (x y : Fin 256) :
    refP (STEP^[2048] (entryContents preI m c)) (ix3 b x y) = ((mat kk 2048 x y : ℝ) : EReal) :=
  (after_trips m c hQ hK hP 2048 le_rfl).state x y

end Cert.QK.Ref
-- ==== Proof.Equation.lean ====
module

public import proofs.«01_k».proof.Proof.Precondition
public import proofs.«01_k».proof.Proof.Sweep
public import proofs.«01_k».proof.Proof.RefLoop

@[expose] public section

/-!
  The equation: from the same arguments the kernel's two result arrays and the reference's two results are equal.
-/

noncomputable section

namespace Cert.QK

open Idealize.ShloMosaic Idealize.SL.Sem

variable [Cert.Pre_fresh_and_finite.Facts]
variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}

/-- The outputs are equal. -/
theorem outputs_eq (h : Cert.Pre_KernelIdeal_fresh_and_finite m) (c : Dev Cert.KernelIdeal.nD)
    (hq : Ref.argQ m' c = argQ m c) (hk : Ref.argK m' c = argK m c)
    (hp : Ref.argP m' c = argP m c)
    (hg : Ref.argG m' c = argG m c) (hs : Ref.argS m' c = argS m c) :
    (Cert.ReferenceIdeal.Value.out_main_v4 (Cert.ReferenceIdeal.Value.STEP^[2048] (StableHlo.entryContents Cert.ReferenceIdeal.Value.preI m' c))
      : FVec Ideal Cert.ReferenceIdeal.S4x2048x256 .f32) = Cert.KernelIdeal.Value.G4 m c := by
  funext i
  obtain ⟨b, t, d, rfl⟩ : ∃ b t d, i = ix3 b t d := ⟨_, _, _, eq_ix3 i⟩
  rw [Ref.result_out (kk := rows (argK m c) b) (qq := rows (argQ m c) b) m' c (fun t d => (congrFun hq _).trans (pre_queries h c b t d))
    (fun t d => (congrFun hk _).trans (pre_keys h c b t d)) (fun x y => (congrFun hp _).trans (pre_state h c _)) t d, hg, hs]
  exact (result_out m c (pre_queries h c) (pre_keys h c) b t d).symm

/-- The last state matrices are equal. -/
theorem states_eq (h : Cert.Pre_KernelIdeal_fresh_and_finite m) (c : Dev Cert.KernelIdeal.nD)
    (hq : Ref.argQ m' c = argQ m c) (hk : Ref.argK m' c = argK m c)
    (hp : Ref.argP m' c = argP m c) :
    refP (Cert.ReferenceIdeal.Value.STEP^[2048] (StableHlo.entryContents Cert.ReferenceIdeal.Value.preI m' c)) = Cert.KernelIdeal.Value.G5 m c := by
  funext i
  obtain ⟨b, x, y, rfl⟩ : ∃ b x y, i = ix3 b x y := ⟨_, _, _, eq_ix3 i⟩
  refine (Ref.result_state (kk := rows (argK m c) b) (qq := rows (argQ m c) b) m' c (fun t d => (congrFun hq _).trans (pre_queries h c b t d))
    (fun t d => (congrFun hk _).trans (pre_keys h c b t d)) (fun x y => (congrFun hp _).trans (pre_state h c _)) x y).trans ?_
  exact (result_state m c (pre_queries h c) (pre_keys h c) b x y).symm

end Cert.QK
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments unchanged, and has no semaphore to leave raised. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The precondition's own shape facts. -/
theorem pre_facts : Cert.Pre_fresh_and_finite.Facts := ⟨by decide, by decide⟩

/-- From agreeing arguments that meet the precondition, both runs end with equal outputs and equal last state matrices:
    the kernel's arrays are the common values. -/
theorem algebraic : letI := Cert.KernelIdeal.Gen.facts; letI := Cert.ReferenceIdeal.Gen.facts; letI := pre_facts
    Cert.algebraic_KernelIdeal_ReferenceIdeal_pre_fresh_and_finite := by
  letI := pre_facts
  intro m g m' g' hpre hagree
  refine ⟨fun c => Cert.KernelIdeal.Value.G4 m c, fun c => Cert.KernelIdeal.Value.G5 m c, Cert.KernelIdeal.Value.run (F := Ideal) m g, ?_⟩
  refine (θ_run Cert.ReferenceIdeal.defs _ _).mono (fun r h c => ?_) (Cert.ReferenceIdeal.Value.run (F := Ideal) m' g')
  obtain ⟨hq, hk, hp, hg, hs⟩ := hagree c
  obtain ⟨hy, hP, hrest⟩ := h c
  exact ⟨hy.trans (Cert.QK.outputs_eq hpre c hq hk hp hg hs), hP.trans (Cert.QK.states_eq hpre c hq hk hp), hrest⟩

/-- Every claim. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
